-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3145728 : Shape := ⟨2, ![8, 3145728]⟩
abbrev S8x786432 : Shape := ⟨2, ![8, 786432]⟩
abbrev S32832 : Shape := ⟨1, ![32832]⟩
abbrev S8192 : Shape := ⟨1, ![8192]⟩
abbrev S_ : Shape := ⟨0, ![]⟩
abbrev S16 : Shape := ⟨1, ![16]⟩
abbrev S32768 : Shape := ⟨1, ![32768]⟩
abbrev S1x32768 : Shape := ⟨2, ![1, 32768]⟩
abbrev S1x8192 : Shape := ⟨2, ![1, 8192]⟩
abbrev S64 : Shape := ⟨1, ![64]⟩

abbrev nBuf : Table → Nat
  | .hbm => 2
  | .local .scVector .vmem => 6
  | _ => 0

abbrev bufTy : (tb : Table) → Fin (nBuf tb) → BufTy
  | .hbm, ⟨0, _⟩ => ⟨S8x3145728, .f32⟩
  | .hbm, ⟨1, _⟩ => ⟨S8x786432, .f32⟩
  | .local .scVector .vmem, ⟨0, _⟩ => ⟨S32832, .f32⟩
  | .local .scVector .vmem, ⟨1, _⟩ => ⟨S32832, .f32⟩
  | .local .scVector .vmem, ⟨2, _⟩ => ⟨S32832, .f32⟩
  | .local .scVector .vmem, ⟨3, _⟩ => ⟨S8192, .f32⟩
  | .local .scVector .vmem, ⟨4, _⟩ => ⟨S8192, .f32⟩
  | .local .scVector .vmem, ⟨5, _⟩ => ⟨S8192, .f32⟩
  | _, _ => ⟨S8x3145728, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c786432_i32 : BitVec 32 := 786432#32
  let v29 : BitVec 32 := Scalar.muli v28 c786432_i32
  let v58 : BitVec 32 := Scalar.addi v29 c0_i32_23
  ![v18.toNat, v58.toNat]
@[reducible] def k0_t1_loop : Scf.Loop 32 :=
  let c0_i32_31 : BitVec 32 := 0#32
  let c8_i32 : BitVec 32 := 8#32
  let v79 : BitVec 32 := Scalar.addi c0_i32_31 c8_i32
  let c1_i32_32 : BitVec 32 := 1#32
  ⟨c0_i32_31, v79, c1_i32_32⟩
@[reducible] def k0_t2_loop : Scf.Loop 32 :=
  let c0_i32_56 : BitVec 32 := 0#32
  let c64_i32 : BitVec 32 := 64#32
  let v111 : BitVec 32 := Scalar.addi c0_i32_56 c64_i32
  let c1_i32_57 : BitVec 32 := 1#32
  ⟨c0_i32_56, v111, c1_i32_57⟩
def k0_off2 (k0_t2 : Fin k0_t2_loop.trips) (c64_i32_100 : BitVec 32) : Fin 1 → Nat :=
  let c0_i32_56 : BitVec 32 := 0#32
  let c1_i32_57 : BitVec 32 := 1#32
  let arg17 : BitVec 32 := Scf.iv c0_i32_56 c1_i32_57 k0_t2
  let c512_i32 : BitVec 32 := 512#32
  let v182 : BitVec 32 := Scalar.muli arg17 c512_i32
  let v183 : BitVec 32 := Scalar.addi v182 c64_i32_100
  ![v183.toNat]
def k0_off3 (k0_t2 : Fin k0_t2_loop.trips) (c0_i32_101 : BitVec 32) : Fin 1 → Nat :=
  let c0_i32_56 : BitVec 32 := 0#32
  let c1_i32_57 : BitVec 32 := 1#32
  let arg17 : BitVec 32 := Scf.iv c0_i32_56 c1_i32_57 k0_t2
  let c128_i32 : BitVec 32 := 128#32
  let v195 : BitVec 32 := Scalar.muli arg17 c128_i32
  let v196 : BitVec 32 := Scalar.addi v195 c0_i32_101
  let v197 : Index := Scalar.indexCast v196
  ![v197.toNat]
def k0_cond2 (k0_t1 : Fin k0_t1_loop.trips) : BitVec 1 :=
  let c0_i32_31 : BitVec 32 := 0#32
  let c1_i32_32 : BitVec 32 := 1#32
  let arg16 : BitVec 32 := Scf.iv c0_i32_31 c1_i32_32 k0_t1
  let c7_i32 : BitVec 32 := 7#32
  let v113 : BitVec 1 := Scalar.cmpi .slt arg16 c7_i32
  let v114 : BitVec 32 := Scalar.extui v113
  let c0_i32_59 : BitVec 32 := 0#32
  let v115 : BitVec 1 := Scalar.cmpi .ne v114 c0_i32_59
  v115

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c786432_i32 : BitVec 32 := 786432#32
  let v29 : BitVec 32 := Scalar.muli v28 c786432_i32
  let c0_i32_31 : BitVec 32 := 0#32
  let c1_i32_32 : BitVec 32 := 1#32
  let arg16 : BitVec 32 := Scf.iv c0_i32_31 c1_i32_32 k0_t1
  let c3_i32_43 : BitVec 32 := 3#32
  let v92 : BitVec 32 := Scalar.muli arg16 c3_i32_43
  let c0_i32_44 : BitVec 32 := 0#32
  let v93 : BitVec 32 := Scalar.addi v92 c0_i32_44
  let c3_i32_100 : BitVec 32 := 3#32
  let v182 : BitVec 32 := Scalar.addi v93 c3_i32_100
  let c32768_i32_101 : BitVec 32 := 32768#32
  let v183 : BitVec 32 := Scalar.muli v182 c32768_i32_101
  let v184 : BitVec 32 := Scalar.addi v29 v183
  ![v18.toNat, v184.toNat]
def k0_off5 (i : grid0.Coords) (k0_t1 : Fin k0_t1_loop.trips) (c0_i32_44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_10 : BitVec 32 := 4#32
  let c0_i32_11 : BitVec 32 := 0#32
  let v30 : BitVec 1 := Scalar.cmpi .eq c4_i32_10 c0_i32_11
  let c1_i32_12 : BitVec 32 := 1#32
  let v31 : BitVec 32 := Scalar.select v30 c1_i32_12 c4_i32_10
  let v32 : BitVec 32 := Scalar.remsi v1 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let c196608_i32 : BitVec 32 := 196608#32
  let v40 : BitVec 32 := Scalar.muli v39 c196608_i32
  let c0_i32_31 : BitVec 32 := 0#32
  let c1_i32_32 : BitVec 32 := 1#32
  let arg16 : BitVec 32 := Scf.iv c0_i32_31 c1_i32_32 k0_t1
  let c3_i32_43 : BitVec 32 := 3#32
  let v92 : BitVec 32 := Scalar.muli arg16 c3_i32_43
  let v93 : BitVec 32 := Scalar.addi v92 c0_i32_44
  let c8192_i32 : BitVec 32 := 8192#32
  let v116 : BitVec 32 := Scalar.muli v93 c8192_i32
  let v117 : BitVec 32 := Scalar.addi v40 v116
  ![v18.toNat, v117.toNat]
@[reducible] def k0_t3_loop : Scf.Loop 32 :=
  let c0_i32_73 : BitVec 32 := 0#32
  let c64_i32_74 : BitVec 32 := 64#32
  let v141 : BitVec 32 := Scalar.addi c0_i32_73 c64_i32_74
  let c1_i32_75 : BitVec 32 := 1#32
  ⟨c0_i32_73, v141, c1_i32_75⟩
def k0_off6 (k0_t3 : Fin k0_t3_loop.trips) (c64_i32_100 : BitVec 32) : Fin 1 → Nat :=
  let c0_i32_73 : BitVec 32 := 0#32
  let c1_i32_75 : BitVec 32 := 1#32
  let arg17 : BitVec 32 := Scf.iv c0_i32_73 c1_i32_75 k0_t3
  let c512_i32 : BitVec 32 := 512#32
  let v182 : BitVec 32 := Scalar.muli arg17 c512_i32
  let v183 : BitVec 32 := Scalar.addi v182 c64_i32_100
  ![v183.toNat]
def k0_off7 (k0_t3 : Fin k0_t3_loop.trips) (c0_i32_101 : BitVec 32) : Fin 1 → Nat :=
  let c0_i32_73 : BitVec 32 := 0#32
  let c1_i32_75 : BitVec 32 := 1#32
  let arg17 : BitVec 32 := Scf.iv c0_i32_73 c1_i32_75 k0_t3
  let c128_i32 : BitVec 32 := 128#32
  let v195 : BitVec 32 := Scalar.muli arg17 c128_i32
  let v196 : BitVec 32 := Scalar.addi v195 c0_i32_101
  let v197 : Index := Scalar.indexCast v196
  ![v197.toNat]
def k0_cond4 (k0_t1 : Fin k0_t1_loop.trips) : BitVec 1 :=
  let c0_i32_31 : BitVec 32 := 0#32
  let c1_i32_32 : BitVec 32 := 1#32
  let arg16 : BitVec 32 := Scf.iv c0_i32_31 c1_i32_32 k0_t1
  let c7_i32_77 : BitVec 32 := 7#32
  let v143 : BitVec 1 := Scalar.cmpi .slt arg16 c7_i32_77
  let v144 : BitVec 32 := Scalar.extui v143
  let c0_i32_78 : BitVec 32 := 0#32
  let v145 : BitVec 1 := Scalar.cmpi .ne v144 c0_i32_78
  v145

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c786432_i32 : BitVec 32 := 786432#32
  let v29 : BitVec 32 := Scalar.muli v28 c786432_i32
  let c0_i32_31 : BitVec 32 := 0#32
  let c1_i32_32 : BitVec 32 := 1#32
  let arg16 : BitVec 32 := Scf.iv c0_i32_31 c1_i32_32 k0_t1
  let c3_i32_60 : BitVec 32 := 3#32
  let v122 : BitVec 32 := Scalar.muli arg16 c3_i32_60
  let c1_i32_61 : BitVec 32 := 1#32
  let v123 : BitVec 32 := Scalar.addi v122 c1_i32_61
  let c3_i32_100 : BitVec 32 := 3#32
  let v182 : BitVec 32 := Scalar.addi v123 c3_i32_100
  let c32768_i32_101 : BitVec 32 := 32768#32
  let v183 : BitVec 32 := Scalar.muli v182 c32768_i32_101
  let v184 : BitVec 32 := Scalar.addi v29 v183
  ![v18.toNat, v184.toNat]
@[reducible] def k0_t4_loop : Scf.Loop 32 :=
  let c0_i32_93 : BitVec 32 := 0#32
  let c64_i32_94 : BitVec 32 := 64#32
  let v171 : BitVec 32 := Scalar.addi c0_i32_93 c64_i32_94
  let c1_i32_95 : BitVec 32 := 1#32
  ⟨c0_i32_93, v171, c1_i32_95⟩
def k0_off9 (k0_t4 : Fin k0_t4_loop.trips) (c64_i32_100 : BitVec 32) : Fin 1 → Nat :=
  let c0_i32_93 : BitVec 32 := 0#32
  let c1_i32_95 : BitVec 32 := 1#32
  let arg17 : BitVec 32 := Scf.iv c0_i32_93 c1_i32_95 k0_t4
  let c512_i32 : BitVec 32 := 512#32
  let v182 : BitVec 32 := Scalar.muli arg17 c512_i32
  let v183 : BitVec 32 := Scalar.addi v182 c64_i32_100
  ![v183.toNat]
def k0_off10 (k0_t4 : Fin k0_t4_loop.trips) (c0_i32_101 : BitVec 32) : Fin 1 → Nat :=
  let c0_i32_93 : BitVec 32 := 0#32
  let c1_i32_95 : BitVec 32 := 1#32
  let arg17 : BitVec 32 := Scf.iv c0_i32_93 c1_i32_95 k0_t4
  let c128_i32 : BitVec 32 := 128#32
  let v195 : BitVec 32 := Scalar.muli arg17 c128_i32
  let v196 : BitVec 32 := Scalar.addi v195 c0_i32_101
  let v197 : Index := Scalar.indexCast v196
  ![v197.toNat]

def k0_chk1 (v45 : IVec S16 32) : Prop :=
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a) ∧
  (∀ a x, ((![v45] : Fin 1 → IVec S16 32) a x).toNat < S64.size a)
theorem k0_idx1_inb : ∀ (v45 : IVec S16 32) (k0_hw1 : k0_chk1 v45), ∀ a x, ((![v45] : Fin 1 → IVec S16 32) a x).toNat < S64.size a := fun v45 k0_hw1 => k0_hw1.1
theorem k0_idx5_inb : ∀ (v45 : IVec S16 32) (k0_hw1 : k0_chk1 v45), ∀ a x, ((![v45] : Fin 1 → IVec S16 32) a x).toNat < S64.size a := fun v45 k0_hw1 => k0_hw1.2.1
theorem k0_idx9_inb : ∀ (v45 : IVec S16 32) (k0_hw1 : k0_chk1 v45), ∀ a x, ((![v45] : Fin 1 → IVec S16 32) a x).toNat < S64.size a := fun v45 k0_hw1 => k0_hw1.2.2.1
theorem k0_idx13_inb : ∀ (v45 : IVec S16 32) (k0_hw1 : k0_chk1 v45), ∀ a x, ((![v45] : Fin 1 → IVec S16 32) a x).toNat < S64.size a := fun v45 k0_hw1 => k0_hw1.2.2.2.1
theorem k0_idx17_inb : ∀ (v45 : IVec S16 32) (k0_hw1 : k0_chk1 v45), ∀ a x, ((![v45] : Fin 1 → IVec S16 32) a x).toNat < S64.size a := fun v45 k0_hw1 => k0_hw1.2.2.2.2.1
theorem k0_idx21_inb : ∀ (v45 : IVec S16 32) (k0_hw1 : k0_chk1 v45), ∀ a x, ((![v45] : Fin 1 → IVec S16 32) a x).toNat < S64.size a := fun v45 k0_hw1 => k0_hw1.2.2.2.2.2.1
theorem k0_idx25_inb : ∀ (v45 : IVec S16 32) (k0_hw1 : k0_chk1 v45), ∀ a x, ((![v45] : Fin 1 → IVec S16 32) a x).toNat < S64.size a := fun v45 k0_hw1 => k0_hw1.2.2.2.2.2.2.1
theorem k0_idx29_inb : ∀ (v45 : IVec S16 32) (k0_hw1 : k0_chk1 v45), ∀ a x, ((![v45] : Fin 1 → IVec S16 32) a x).toNat < S64.size a := fun v45 k0_hw1 => k0_hw1.2.2.2.2.2.2.2.1
theorem k0_idx33_inb : ∀ (v45 : IVec S16 32) (k0_hw1 : k0_chk1 v45), ∀ a x, ((![v45] : Fin 1 → IVec S16 32) a x).toNat < S64.size a := fun v45 k0_hw1 => k0_hw1.2.2.2.2.2.2.2.2.1
theorem k0_idx37_inb : ∀ (v45 : IVec S16 32) (k0_hw1 : k0_chk1 v45), ∀ a x, ((![v45] : Fin 1 → IVec S16 32) a x).toNat < S64.size a := fun v45 k0_hw1 => k0_hw1.2.2.2.2.2.2.2.2.2.1
theorem k0_idx41_inb : ∀ (v45 : IVec S16 32) (k0_hw1 : k0_chk1 v45), ∀ a x, ((![v45] : Fin 1 → IVec S16 32) a x).toNat < S64.size a := fun v45 k0_hw1 => k0_hw1.2.2.2.2.2.2.2.2.2.2.1
theorem k0_idx45_inb : ∀ (v45 : IVec S16 32) (k0_hw1 : k0_chk1 v45), ∀ a x, ((![v45] : Fin 1 → IVec S16 32) a x).toNat < S64.size a := fun v45 k0_hw1 => k0_hw1.2.2.2.2.2.2.2.2.2.2.2.1
theorem k0_idx49_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.1
theorem k0_idx53_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.1
theorem k0_idx57_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.1
theorem k0_idx61_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.1
theorem k0_idx65_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.1
theorem k0_idx69_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.1
theorem k0_idx73_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.1
theorem k0_idx77_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.1
theorem k0_idx81_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.2.1
theorem k0_idx85_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.2.2.1
theorem k0_idx89_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.2.2.2.1
theorem k0_idx93_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.2.2.2.2.1
theorem k0_idx97_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.2.2.2.2.2.1
theorem k0_idx101_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.2.2.2.2.2.2.1
theorem k0_idx105_inb : ∀ (v45 : IVec S16 32) (k0_hw1 : k0_chk1 v45), ∀ a x, ((![v45] : Fin 1 → IVec S16 32) a x).toNat < S64.size a := fun v45 k0_hw1 => k0_hw1.2.2.2.2.2.2.2.2.2.2.2.2.2.2.2.2.2.2.2.2.2.2.2.2.2.2

def k0_chk2 (v49 : IVec S16 32) : Prop :=
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a) ∧
  (∀ a x, ((![v49] : Fin 1 → IVec S16 32) a x).toNat < S64.size a)
theorem k0_idx2_inb : ∀ (v49 : IVec S16 32) (k0_hw2 : k0_chk2 v49), ∀ a x, ((![v49] : Fin 1 → IVec S16 32) a x).toNat < S64.size a := fun v49 k0_hw2 => k0_hw2.1
theorem k0_idx6_inb : ∀ (v49 : IVec S16 32) (k0_hw2 : k0_chk2 v49), ∀ a x, ((![v49] : Fin 1 → IVec S16 32) a x).toNat < S64.size a := fun v49 k0_hw2 => k0_hw2.2.1
theorem k0_idx10_inb : ∀ (v49 : IVec S16 32) (k0_hw2 : k0_chk2 v49), ∀ a x, ((![v49] : Fin 1 → IVec S16 32) a x).toNat < S64.size a := fun v49 k0_hw2 => k0_hw2.2.2.1
theorem k0_idx14_inb : ∀ (v49 : IVec S16 32) (k0_hw2 : k0_chk2 v49), ∀ a x, ((![v49] : Fin 1 → IVec S16 32) a x).toNat < S64.size a := fun v49 k0_hw2 => k0_hw2.2.2.2.1
theorem k0_idx18_inb : ∀ (v49 : IVec S16 32) (k0_hw2 : k0_chk2 v49), ∀ a x, ((![v49] : Fin 1 → IVec S16 32) a x).toNat < S64.size a := fun v49 k0_hw2 => k0_hw2.2.2.2.2.1
theorem k0_idx22_inb : ∀ (v49 : IVec S16 32) (k0_hw2 : k0_chk2 v49), ∀ a x, ((![v49] : Fin 1 → IVec S16 32) a x).toNat < S64.size a := fun v49 k0_hw2 => k0_hw2.2.2.2.2.2.1
theorem k0_idx26_inb : ∀ (v49 : IVec S16 32) (k0_hw2 : k0_chk2 v49), ∀ a x, ((![v49] : Fin 1 → IVec S16 32) a x).toNat < S64.size a := fun v49 k0_hw2 => k0_hw2.2.2.2.2.2.2.1
theorem k0_idx30_inb : ∀ (v49 : IVec S16 32) (k0_hw2 : k0_chk2 v49), ∀ a x, ((![v49] : Fin 1 → IVec S16 32) a x).toNat < S64.size a := fun v49 k0_hw2 => k0_hw2.2.2.2.2.2.2.2.1
theorem k0_idx34_inb : ∀ (v49 : IVec S16 32) (k0_hw2 : k0_chk2 v49), ∀ a x, ((![v49] : Fin 1 → IVec S16 32) a x).toNat < S64.size a := fun v49 k0_hw2 => k0_hw2.2.2.2.2.2.2.2.2.1
theorem k0_idx38_inb : ∀ (v49 : IVec S16 32) (k0_hw2 : k0_chk2 v49), ∀ a x, ((![v49] : Fin 1 → IVec S16 32) a x).toNat < S64.size a := fun v49 k0_hw2 => k0_hw2.2.2.2.2.2.2.2.2.2.1
theorem k0_idx42_inb : ∀ (v49 : IVec S16 32) (k0_hw2 : k0_chk2 v49), ∀ a x, ((![v49] : Fin 1 → IVec S16 32) a x).toNat < S64.size a := fun v49 k0_hw2 => k0_hw2.2.2.2.2.2.2.2.2.2.2.1
theorem k0_idx46_inb : ∀ (v49 : IVec S16 32) (k0_hw2 : k0_chk2 v49), ∀ a x, ((![v49] : Fin 1 → IVec S16 32) a x).toNat < S64.size a := fun v49 k0_hw2 => k0_hw2.2.2.2.2.2.2.2.2.2.2.2.1
theorem k0_idx50_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.1
theorem k0_idx54_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.1
theorem k0_idx58_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.1
theorem k0_idx62_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.1
theorem k0_idx66_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.1
theorem k0_idx70_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.1
theorem k0_idx74_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.1
theorem k0_idx78_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.1
theorem k0_idx82_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.2.1
theorem k0_idx86_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.2.2.1
theorem k0_idx90_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.2.2.2.1
theorem k0_idx94_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.2.2.2.2.1
theorem k0_idx98_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.2.2.2.2.2.1
theorem k0_idx102_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.2.2.2.2.2.2.1
theorem k0_idx106_inb : ∀ (v49 : IVec S16 32) (k0_hw2 : k0_chk2 v49), ∀ a x, ((![v49] : Fin 1 → IVec S16 32) a x).toNat < S64.size a := fun v49 k0_hw2 => k0_hw2.2.2.2.2.2.2.2.2.2.2.2.2.2.2.2.2.2.2.2.2.2.2.2.2.2.2

def k0_chk3 (v53 : IVec S16 32) : Prop :=
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a) ∧
  (∀ a x, ((![v53] : Fin 1 → IVec S16 32) a x).toNat < S64.size a)
theorem k0_idx3_inb : ∀ (v53 : IVec S16 32) (k0_hw3 : k0_chk3 v53), ∀ a x, ((![v53] : Fin 1 → IVec S16 32) a x).toNat < S64.size a := fun v53 k0_hw3 => k0_hw3.1
theorem k0_idx7_inb : ∀ (v53 : IVec S16 32) (k0_hw3 : k0_chk3 v53), ∀ a x, ((![v53] : Fin 1 → IVec S16 32) a x).toNat < S64.size a := fun v53 k0_hw3 => k0_hw3.2.1
theorem k0_idx11_inb : ∀ (v53 : IVec S16 32) (k0_hw3 : k0_chk3 v53), ∀ a x, ((![v53] : Fin 1 → IVec S16 32) a x).toNat < S64.size a := fun v53 k0_hw3 => k0_hw3.2.2.1
theorem k0_idx15_inb : ∀ (v53 : IVec S16 32) (k0_hw3 : k0_chk3 v53), ∀ a x, ((![v53] : Fin 1 → IVec S16 32) a x).toNat < S64.size a := fun v53 k0_hw3 => k0_hw3.2.2.2.1
theorem k0_idx19_inb : ∀ (v53 : IVec S16 32) (k0_hw3 : k0_chk3 v53), ∀ a x, ((![v53] : Fin 1 → IVec S16 32) a x).toNat < S64.size a := fun v53 k0_hw3 => k0_hw3.2.2.2.2.1
theorem k0_idx23_inb : ∀ (v53 : IVec S16 32) (k0_hw3 : k0_chk3 v53), ∀ a x, ((![v53] : Fin 1 → IVec S16 32) a x).toNat < S64.size a := fun v53 k0_hw3 => k0_hw3.2.2.2.2.2.1
theorem k0_idx27_inb : ∀ (v53 : IVec S16 32) (k0_hw3 : k0_chk3 v53), ∀ a x, ((![v53] : Fin 1 → IVec S16 32) a x).toNat < S64.size a := fun v53 k0_hw3 => k0_hw3.2.2.2.2.2.2.1
theorem k0_idx31_inb : ∀ (v53 : IVec S16 32) (k0_hw3 : k0_chk3 v53), ∀ a x, ((![v53] : Fin 1 → IVec S16 32) a x).toNat < S64.size a := fun v53 k0_hw3 => k0_hw3.2.2.2.2.2.2.2.1
theorem k0_idx35_inb : ∀ (v53 : IVec S16 32) (k0_hw3 : k0_chk3 v53), ∀ a x, ((![v53] : Fin 1 → IVec S16 32) a x).toNat < S64.size a := fun v53 k0_hw3 => k0_hw3.2.2.2.2.2.2.2.2.1
theorem k0_idx39_inb : ∀ (v53 : IVec S16 32) (k0_hw3 : k0_chk3 v53), ∀ a x, ((![v53] : Fin 1 → IVec S16 32) a x).toNat < S64.size a := fun v53 k0_hw3 => k0_hw3.2.2.2.2.2.2.2.2.2.1
theorem k0_idx43_inb : ∀ (v53 : IVec S16 32) (k0_hw3 : k0_chk3 v53), ∀ a x, ((![v53] : Fin 1 → IVec S16 32) a x).toNat < S64.size a := fun v53 k0_hw3 => k0_hw3.2.2.2.2.2.2.2.2.2.2.1
theorem k0_idx47_inb : ∀ (v53 : IVec S16 32) (k0_hw3 : k0_chk3 v53), ∀ a x, ((![v53] : Fin 1 → IVec S16 32) a x).toNat < S64.size a := fun v53 k0_hw3 => k0_hw3.2.2.2.2.2.2.2.2.2.2.2.1
theorem k0_idx51_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.1
theorem k0_idx55_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.1
theorem k0_idx59_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.1
theorem k0_idx63_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.1
theorem k0_idx67_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.1
theorem k0_idx71_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.1
theorem k0_idx75_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.1
theorem k0_idx79_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.1
theorem k0_idx83_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.2.1
theorem k0_idx87_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.2.2.1
theorem k0_idx91_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.2.2.2.1
theorem k0_idx95_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.2.2.2.2.1
theorem k0_idx99_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.2.2.2.2.2.1
theorem k0_idx103_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.2.2.2.2.2.2.1
theorem k0_idx107_inb : ∀ (v53 : IVec S16 32) (k0_hw3 : k0_chk3 v53), ∀ a x, ((![v53] : Fin 1 → IVec S16 32) a x).toNat < S64.size a := fun v53 k0_hw3 => k0_hw3.2.2.2.2.2.2.2.2.2.2.2.2.2.2.2.2.2.2.2.2.2.2.2.2.2.2

def k0_chk4 (v57 : IVec S16 32) : Prop :=
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a) ∧
  (∀ a x, ((![v57] : Fin 1 → IVec S16 32) a x).toNat < S64.size a)
theorem k0_idx4_inb : ∀ (v57 : IVec S16 32) (k0_hw4 : k0_chk4 v57), ∀ a x, ((![v57] : Fin 1 → IVec S16 32) a x).toNat < S64.size a := fun v57 k0_hw4 => k0_hw4.1
theorem k0_idx8_inb : ∀ (v57 : IVec S16 32) (k0_hw4 : k0_chk4 v57), ∀ a x, ((![v57] : Fin 1 → IVec S16 32) a x).toNat < S64.size a := fun v57 k0_hw4 => k0_hw4.2.1
theorem k0_idx12_inb : ∀ (v57 : IVec S16 32) (k0_hw4 : k0_chk4 v57), ∀ a x, ((![v57] : Fin 1 → IVec S16 32) a x).toNat < S64.size a := fun v57 k0_hw4 => k0_hw4.2.2.1
theorem k0_idx16_inb : ∀ (v57 : IVec S16 32) (k0_hw4 : k0_chk4 v57), ∀ a x, ((![v57] : Fin 1 → IVec S16 32) a x).toNat < S64.size a := fun v57 k0_hw4 => k0_hw4.2.2.2.1
theorem k0_idx20_inb : ∀ (v57 : IVec S16 32) (k0_hw4 : k0_chk4 v57), ∀ a x, ((![v57] : Fin 1 → IVec S16 32) a x).toNat < S64.size a := fun v57 k0_hw4 => k0_hw4.2.2.2.2.1
theorem k0_idx24_inb : ∀ (v57 : IVec S16 32) (k0_hw4 : k0_chk4 v57), ∀ a x, ((![v57] : Fin 1 → IVec S16 32) a x).toNat < S64.size a := fun v57 k0_hw4 => k0_hw4.2.2.2.2.2.1
theorem k0_idx28_inb : ∀ (v57 : IVec S16 32) (k0_hw4 : k0_chk4 v57), ∀ a x, ((![v57] : Fin 1 → IVec S16 32) a x).toNat < S64.size a := fun v57 k0_hw4 => k0_hw4.2.2.2.2.2.2.1
theorem k0_idx32_inb : ∀ (v57 : IVec S16 32) (k0_hw4 : k0_chk4 v57), ∀ a x, ((![v57] : Fin 1 → IVec S16 32) a x).toNat < S64.size a := fun v57 k0_hw4 => k0_hw4.2.2.2.2.2.2.2.1
theorem k0_idx36_inb : ∀ (v57 : IVec S16 32) (k0_hw4 : k0_chk4 v57), ∀ a x, ((![v57] : Fin 1 → IVec S16 32) a x).toNat < S64.size a := fun v57 k0_hw4 => k0_hw4.2.2.2.2.2.2.2.2.1
theorem k0_idx40_inb : ∀ (v57 : IVec S16 32) (k0_hw4 : k0_chk4 v57), ∀ a x, ((![v57] : Fin 1 → IVec S16 32) a x).toNat < S64.size a := fun v57 k0_hw4 => k0_hw4.2.2.2.2.2.2.2.2.2.1
theorem k0_idx44_inb : ∀ (v57 : IVec S16 32) (k0_hw4 : k0_chk4 v57), ∀ a x, ((![v57] : Fin 1 → IVec S16 32) a x).toNat < S64.size a := fun v57 k0_hw4 => k0_hw4.2.2.2.2.2.2.2.2.2.2.1
theorem k0_idx48_inb : ∀ (v57 : IVec S16 32) (k0_hw4 : k0_chk4 v57), ∀ a x, ((![v57] : Fin 1 → IVec S16 32) a x).toNat < S64.size a := fun v57 k0_hw4 => k0_hw4.2.2.2.2.2.2.2.2.2.2.2.1
theorem k0_idx52_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.1
theorem k0_idx56_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.1
theorem k0_idx60_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.1
theorem k0_idx64_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.1
theorem k0_idx68_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.1
theorem k0_idx72_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.1
theorem k0_idx76_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.1
theorem k0_idx80_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.1
theorem k0_idx84_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.2.1
theorem k0_idx88_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.2.2.1
theorem k0_idx92_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.2.2.2.1
theorem k0_idx96_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.2.2.2.2.1
theorem k0_idx100_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.2.2.2.2.2.1
theorem k0_idx104_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.2.2.2.2.2.2.1
theorem k0_idx108_inb : ∀ (v57 : IVec S16 32) (k0_hw4 : k0_chk4 v57), ∀ a x, ((![v57] : Fin 1 → IVec S16 32) a x).toNat < S64.size a := fun v57 k0_hw4 => k0_hw4.2.2.2.2.2.2.2.2.2.2.2.2.2.2.2.2.2.2.2.2.2.2.2.2.2.2
def k0_cond6 (k0_t1 : Fin k0_t1_loop.trips) : BitVec 1 :=
  let c0_i32_31 : BitVec 32 := 0#32
  let c1_i32_32 : BitVec 32 := 1#32
  let arg16 : BitVec 32 := Scf.iv c0_i32_31 c1_i32_32 k0_t1
  let c7_i32_97 : BitVec 32 := 7#32
  let v173 : BitVec 1 := Scalar.cmpi .slt arg16 c7_i32_97
  let v174 : BitVec 32 := Scalar.extui v173
  let c0_i32_98 : BitVec 32 := 0#32
  let v175 : BitVec 1 := Scalar.cmpi .ne v174 c0_i32_98
  v175

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c786432_i32 : BitVec 32 := 786432#32
  let v29 : BitVec 32 := Scalar.muli v28 c786432_i32
  let c0_i32_31 : BitVec 32 := 0#32
  let c1_i32_32 : BitVec 32 := 1#32
  let arg16 : BitVec 32 := Scf.iv c0_i32_31 c1_i32_32 k0_t1
  let c3_i32_80 : BitVec 32 := 3#32
  let v152 : BitVec 32 := Scalar.muli arg16 c3_i32_80
  let c2_i32_81 : BitVec 32 := 2#32
  let v153 : BitVec 32 := Scalar.addi v152 c2_i32_81
  let c3_i32_100 : BitVec 32 := 3#32
  let v182 : BitVec 32 := Scalar.addi v153 c3_i32_100
  let c32768_i32_101 : BitVec 32 := 32768#32
  let v183 : BitVec 32 := Scalar.muli v182 c32768_i32_101
  let v184 : BitVec 32 := Scalar.addi v29 v183
  ![v18.toNat, v184.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x3145728 : Shape := ⟨2, ![8, 3145728]⟩
abbrev S786432 : Shape := ⟨1, ![786432]⟩
abbrev S_ : Shape := ⟨0, ![]⟩
abbrev S786432x1 : Shape := ⟨2, ![786432, 1]⟩
abbrev S4 : Shape := ⟨1, ![4]⟩
abbrev S1x4 : Shape := ⟨2, ![1, 4]⟩
abbrev S786432x4 : Shape := ⟨2, ![786432, 4]⟩
abbrev S3145728 : Shape := ⟨1, ![3145728]⟩
abbrev S3145728x1 : Shape := ⟨2, ![3145728, 1]⟩
abbrev S1 : Shape := ⟨1, ![1]⟩
abbrev S1x1 : Shape := ⟨2, ![1, 1]⟩
abbrev S8x786432x4 : Shape := ⟨3, ![8, 786432, 4]⟩
abbrev S8x786432 : Shape := ⟨2, ![8, 786432]⟩

abbrev nBuf : Space → Nat
  | .hbm => 38
  | .vmem => 0
  | .smem => 0
  | _ => 0

abbrev bufTy : (tb : Table) → Fin (tcTables nBuf tb) → BufTy
  | .hbm, ⟨0, _⟩ => ⟨S8x3145728, .f32⟩
  | .hbm, ⟨1, _⟩ => ⟨S786432, .i32⟩
  | .hbm, ⟨2, _⟩ => ⟨S_, .i32⟩
  | .hbm, ⟨3, _⟩ => ⟨S786432, .i32⟩
  | .hbm, ⟨4, _⟩ => ⟨S786432, .i32⟩
  | .hbm, ⟨5, _⟩ => ⟨S786432x1, .i32⟩
  | .hbm, ⟨6, _⟩ => ⟨S4, .i32⟩
  | .hbm, ⟨7, _⟩ => ⟨S1x4, .i32⟩
  | .hbm, ⟨8, _⟩ => ⟨S786432x4, .i32⟩
  | .hbm, ⟨9, _⟩ => ⟨S786432x4, .i32⟩
  | .hbm, ⟨10, _⟩ => ⟨S786432x4, .i32⟩
  | .hbm, ⟨11, _⟩ => ⟨S3145728, .i32⟩
  | .hbm, ⟨12, _⟩ => ⟨S_, .i32⟩
  | .hbm, ⟨13, _⟩ => ⟨S3145728, .i32⟩
  | .hbm, ⟨14, _⟩ => ⟨S3145728, .i1⟩
  | .hbm, ⟨15, _⟩ => ⟨S_, .i32⟩
  | .hbm, ⟨16, _⟩ => ⟨S3145728, .i32⟩
  | .hbm, ⟨17, _⟩ => ⟨S3145728, .i32⟩
  | .hbm, ⟨18, _⟩ => ⟨S3145728, .i32⟩
  | .hbm, ⟨19, _⟩ => ⟨S3145728x1, .i32⟩
  | .hbm, ⟨20, _⟩ => ⟨S1, .i32⟩
  | .hbm, ⟨21, _⟩ => ⟨S_, .i32⟩
  | .hbm, ⟨22, _⟩ => ⟨S3145728x1, .i32⟩
  | .hbm, ⟨23, _⟩ => ⟨S3145728x1, .i1⟩
  | .hbm, ⟨24, _⟩ => ⟨S1x1, .i32⟩
  | .hbm, ⟨25, _⟩ => ⟨S3145728x1, .i32⟩
  | .hbm, ⟨26, _⟩ => ⟨S3145728x1, .i1⟩
  | .hbm, ⟨27, _⟩ => ⟨S3145728x1, .i1⟩
  | .hbm, ⟨28, _⟩ => ⟨S_, .i1⟩
  | .hbm, ⟨29, _⟩ => ⟨S3145728, .i1⟩
  | .hbm, ⟨30, _⟩ => ⟨S8x3145728, .f32⟩
  | .hbm, ⟨31, _⟩ => ⟨S8x3145728, .i1⟩
  | .hbm, ⟨32, _⟩ => ⟨S_, .f32⟩
  | .hbm, ⟨33, _⟩ => ⟨S8x3145728, .f32⟩
  | .hbm, ⟨34, _⟩ => ⟨S8x3145728, .f32⟩
  | .hbm, ⟨35, _⟩ => ⟨S8x786432x4, .f32⟩
  | .hbm, ⟨36, _⟩ => ⟨S_, .f32⟩
  | .hbm, ⟨37, _⟩ => ⟨S8x786432, .f32⟩
  | _, _ => ⟨S8x3145728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩

abbrev nD : Nat := 1
abbrev τ : Topo := Topo.v7x

variable {F : FTy → Type} [FloatOps F]
-- ==== Proof.Program.lean ====
/-
  The kernel's program in a shape the proof can work with. The kernel treats three pairs of buffers in turn, with the
  same text for each; here that text is written once, for any pair, and the kernel's loop body is three copies of it.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.SL.Sem

variable {F : FTy → Type} [FloatOps F]

/-- The programs of the tile a grid point names. -/
abbrev TileProg (F : FTy → Type) (i : grid0.Coords) (α : Type) : Type 1 :=
  Prog (TpuEff nD τ sig (Elt F) Λ₀ (.scVector ((i 0).castLE hcore0) ((i 1).castLE hsub0))) α

/-- Four vectors of sixteen words, one for each of the four places in a group. -/
abbrev Four (F : FTy → Type) : Type := Vec F S16 .f32 × Vec F S16 .f32 × Vec F S16 .f32 × Vec F S16 .f32

/-- The largest of the four, word by word. -/
def top (v : Four F) : FVec F S16 .f32 :=
  maximumf (maximumf v.1 v.2.1) (maximumf v.2.2.1 v.2.2.2)

/-- Read sixty-four words at `o`, dealt into four vectors by their place in a group of four. -/
def deal (i : grid0.Coords) (ib : Memref sig .scVector .vmem S32832 .f32)
    (hw1 : k0_chk1 k0_pay25) (hw2 : k0_chk2 k0_pay26) (hw3 : k0_chk3 k0_pay27) (hw4 : k0_chk4 k0_pay28)
    (o : Fin 1 → Nat) (ho : ∀ a, o a + S64.size a ≤ S32832.size a) : TileProg F i (Four F) := do
  let a : Vec F S16 .f32 ← SparseCore.vectorLoadIdx (ib.slice (Rect.unit (s := S32832) o S64.size ho) (fun _ => rfl)) ![k0_pay25] (k0_idx5_inb k0_pay25 hw1) (View.loads_vmem h_S64)
  let b : Vec F S16 .f32 ← SparseCore.vectorLoadIdx (ib.slice (Rect.unit (s := S32832) o S64.size ho) (fun _ => rfl)) ![k0_pay26] (k0_idx6_inb k0_pay26 hw2) (View.loads_vmem h_S64)
  let c : Vec F S16 .f32 ← SparseCore.vectorLoadIdx (ib.slice (Rect.unit (s := S32832) o S64.size ho) (fun _ => rfl)) ![k0_pay27] (k0_idx7_inb k0_pay27 hw3) (View.loads_vmem h_S64)
  let d : Vec F S16 .f32 ← SparseCore.vectorLoadIdx (ib.slice (Rect.unit (s := S32832) o S64.size ho) (fun _ => rfl)) ![k0_pay28] (k0_idx8_inb k0_pay28 hw4) (View.loads_vmem h_S64)
  pure (a, b, c, d)

/-- One step: read the next sixty-four words, then write the sixteen largest of the words read before. -/
def step (i : grid0.Coords) (ib : Memref sig .scVector .vmem S32832 .f32) (ob : Memref sig .scVector .vmem S8192 .f32)
    (hw1 : k0_chk1 k0_pay25) (hw2 : k0_chk2 k0_pay26) (hw3 : k0_chk3 k0_pay27) (hw4 : k0_chk4 k0_pay28)
    (o : Fin 1 → Nat) (ho : ∀ a, o a + S64.size a ≤ S32832.size a)
    (p : Fin 1 → Nat) (hp : ∀ a, p a + S16.size a ≤ S8192.size a) (cur : Four F) : TileProg F i (Four F) := do
  let nxt : Four F ← deal i ib hw1 hw2 hw3 hw4 o ho
  let _v : Vec F S16 .f32 ← Prog.lift (.load ob (Rect.unit (s := S8192) p S16.size hp).toLoadRect (View.loadsAt_vmem h_S16))
  Prog.lift (.store ob (Rect.unit (s := S8192) p S16.size hp) (top cur) Finset.univ (View.stores_vmem_bits_univ h_S16 rfl) (.inl rfl))
  pure nxt

/-- One trip of the inner loop: eight steps. -/
def trip (i : grid0.Coords) (ib : Memref sig .scVector .vmem S32832 .f32) (ob : Memref sig .scVector .vmem S8192 .f32)
    (hw1 : k0_chk1 k0_pay25) (hw2 : k0_chk2 k0_pay26) (hw3 : k0_chk3 k0_pay27) (hw4 : k0_chk4 k0_pay28)
    (j : Fin k0_t2_loop.trips) (cur : Four F) : TileProg F i (Four F) := do
  let c1 ← step i ib ob hw1 hw2 hw3 hw4 (k0_off2 j 64#32) (k0_off2_inb j 0) (k0_off3 j 0#32) (k0_off3_inb j 0) cur
  let c2 ← step i ib ob hw1 hw2 hw3 hw4 (k0_off2 j 128#32) (k0_off2_inb j 1) (k0_off3 j 16#32) (k0_off3_inb j 1) c1
  let c3 ← step i ib ob hw1 hw2 hw3 hw4 (k0_off2 j 192#32) (k0_off2_inb j 2) (k0_off3 j 32#32) (k0_off3_inb j 2) c2
  let c4 ← step i ib ob hw1 hw2 hw3 hw4 (k0_off2 j 256#32) (k0_off2_inb j 3) (k0_off3 j 48#32) (k0_off3_inb j 3) c3
  let c5 ← step i ib ob hw1 hw2 hw3 hw4 (k0_off2 j 320#32) (k0_off2_inb j 4) (k0_off3 j 64#32) (k0_off3_inb j 4) c4
  let c6 ← step i ib ob hw1 hw2 hw3 hw4 (k0_off2 j 384#32) (k0_off2_inb j 5) (k0_off3 j 80#32) (k0_off3_inb j 5) c5
  let c7 ← step i ib ob hw1 hw2 hw3 hw4 (k0_off2 j 448#32) (k0_off2_inb j 6) (k0_off3 j 96#32) (k0_off3_inb j 6) c6
  let c8 ← step i ib ob hw1 hw2 hw3 hw4 (k0_off2 j 512#32) (k0_off2_inb j 7) (k0_off3 j 112#32) (k0_off3_inb j 7) c7
  pure c8

/-- The window of `x` one copy reads, as a row of words. -/
abbrev xwin (x : Memref sig .scVector .hbm S8x3145728 .f32) (o : Fin 2 → Nat)
    (ho : ∀ a, o a + S1x32768.size a ≤ S8x3145728.size a) : Memref sig .scVector .hbm S32768 .f32 :=
  (x.slice (Rect.unit (s := S8x3145728) o S1x32768.size ho) (fun _ => rfl)).squeeze S32768 squeezes_S1x32768_S32768

/-- The window of the result one copy writes, as a row of words. -/
abbrev owin (y : Memref sig .scVector .hbm S8x786432 .f32) (o : Fin 2 → Nat)
    (ho : ∀ a, o a + S1x8192.size a ≤ S8x786432.size a) : Memref sig .scVector .hbm S8192 .f32 :=
  (y.slice (Rect.unit (s := S8x786432) o S1x8192.size ho) (fun _ => rfl)).squeeze S8192 squeezes_S1x8192_S8192

/-- The part of an input buffer a copy fills. -/
abbrev ifill (ib : Memref sig .scVector .vmem S32832 .f32) : Memref sig .scVector .vmem S32768 .f32 :=
  ib.slice (Rect.unit (s := S32832) ![0] S32768.size inb_S32832_S32768_0) (fun _ => rfl)

/-- Start a copy of `x` into an input buffer. -/
def fetch (i : grid0.Coords) (x : Memref sig .scVector .hbm S8x3145728 .f32) (ib : Memref sig .scVector .vmem S32832 .f32)
    (si : DmaSems sig S_) (o : Fin 2 → Nat) (ho : ∀ a, o a + S1x32768.size a ≤ S8x3145728.size a) :
    TileProg F i PUnit :=
  Prog.lift (.enqueueDma (xwin x o ho) (.here (ifill ib)) (.dma si.sem) ((View.wordExact_bits rfl).reshape _ _) (View.wordExact_bits rfl) ⟨Or.inl rfl, trivial⟩)

/-- Wait for the copy into an input buffer. -/
def await (i : grid0.Coords) (x : Memref sig .scVector .hbm S8x3145728 .f32) (ib : Memref sig .scVector .vmem S32832 .f32)
    (si : DmaSems sig S_) : TileProg F i PUnit :=
  Prog.lift (.waitDma2 si.sem (xwin x ![0, 0] inb_S8x3145728_S1x32768_0_0) (ifill ib) ((View.wordExact_bits rfl).reshape _ _) (View.wordExact_bits rfl))

/-- Start a copy of an output buffer into the result. -/
def emit (i : grid0.Coords) (y : Memref sig .scVector .hbm S8x786432 .f32) (ob : Memref sig .scVector .vmem S8192 .f32)
    (hob : ob.IsWhole) (so : DmaSems sig S_) (o : Fin 2 → Nat) (ho : ∀ a, o a + S1x8192.size a ≤ S8x786432.size a) :
    TileProg F i PUnit :=
  Prog.lift (.enqueueDma ob (.here (owin y o ho)) (.dma so.sem) hob.wordExact ((View.wordExact_bits rfl).reshape _ _) ⟨Or.inl rfl, trivial⟩)

/-- Wait for the copy out of an output buffer. -/
def settle (i : grid0.Coords) (y : Memref sig .scVector .hbm S8x786432 .f32) (ob : Memref sig .scVector .vmem S8192 .f32)
    (hob : ob.IsWhole) (so : DmaSems sig S_) : TileProg F i PUnit :=
  Prog.lift (.waitDma2 so.sem ob (owin y ![0, 0] inb_S8x786432_S1x8192_0_0) hob.wordExact ((View.wordExact_bits rfl).reshape _ _))

/-- The turn of one pair of buffers: wait for the input, wait for the output buffer to be free unless this is the
    first time, do the work, start the next input unless this is the last time, start the output. -/
def turn (i : grid0.Coords) (x : Memref sig .scVector .hbm S8x3145728 .f32) (y : Memref sig .scVector .hbm S8x786432 .f32)
    (ib : Memref sig .scVector .vmem S32832 .f32) (ob : Memref sig .scVector .vmem S8192 .f32)
    (hob : ob.IsWhole) (si so : DmaSems sig S_)
    (hw1 : k0_chk1 k0_pay25) (hw2 : k0_chk2 k0_pay26) (hw3 : k0_chk3 k0_pay27) (hw4 : k0_chk4 k0_pay28)
    (cs cf : BitVec 1) (ox : Fin 2 → Nat) (hox : cf = 1#1 → ∀ a, ox a + S1x32768.size a ≤ S8x3145728.size a)
    (oy : Fin 2 → Nat) (hoy : ∀ a, oy a + S1x8192.size a ≤ S8x786432.size a) {α : Type} (r : α) :
    TileProg F i α := do
  await i x ib si
  if _h : cs = 1#1 then do
    settle i y ob hob so
    pure PUnit.unit
  else do
    pure PUnit.unit
  let c ← deal i ib hw1 hw2 hw3 hw4 ![0] inb_S32832_S64_0
  let _c' ← Scf.Loop.for k0_t2_loop k0_t2_ok c (trip i ib ob hw1 hw2 hw3 hw4)
  if h : cf = 1#1 then do
    fetch i x ib si ox (hox h)
    pure PUnit.unit
  else do
    pure PUnit.unit
  emit i y ob hob so oy hoy
  pure r

/-- Whether a counter is positive, as the kernel computes it. -/
abbrev later (v : BitVec 32) : BitVec 1 :=
  Scalar.cmpi .ne (Scalar.extui (Scalar.cmpi .sgt v (0#32 : BitVec 32)) : BitVec 32) 0#32

section
variable (i : grid0.Coords)
    (arg2 : Memref sig .scVector .hbm S8x3145728 .f32) (harg2 : arg2.IsWhole)
    (arg3 : Memref sig .scVector .hbm S8x786432 .f32) (harg3 : arg3.IsWhole)
    (arg4 : Memref sig .scVector .vmem S32832 .f32) (harg4 : arg4.IsWhole)
    (arg5 : Memref sig .scVector .vmem S32832 .f32) (harg5 : arg5.IsWhole)
    (arg6 : Memref sig .scVector .vmem S32832 .f32) (harg6 : arg6.IsWhole)
    (arg7 : Memref sig .scVector .vmem S8192 .f32) (harg7 : arg7.IsWhole)
    (arg8 : Memref sig .scVector .vmem S8192 .f32) (harg8 : arg8.IsWhole)
    (arg9 : Memref sig .scVector .vmem S8192 .f32) (harg9 : arg9.IsWhole)
    (arg10 arg11 arg12 arg13 arg14 arg15 : DmaSems sig S_)
    (v29 v40 : BitVec 32)
    (hw1 : k0_chk1 k0_pay25) (hw2 : k0_chk2 k0_pay26) (hw3 : k0_chk3 k0_pay27) (hw4 : k0_chk4 k0_pay28)

set_option maxHeartbeats 4000000 in
theorem t2_body_eq (c0 c1 : BitVec 32) (t : Fin k0_t1_loop.trips) (j : Fin k0_t2_loop.trips) (c : Four F) :
    k0_t2_body i arg2 harg2 arg3 harg3 arg4 harg4 arg5 harg5 arg6 harg6 arg7 harg7 arg8 harg8 arg9 harg9 arg10 arg11
      arg12 arg13 arg14 arg15 v29 v40 k0_pay25 hw1 k0_pay26 hw2 k0_pay27 hw3 k0_pay28 hw4 c0 c1 t j c
      = trip i arg4 arg7 hw1 hw2 hw3 hw4 j c := rfl

set_option maxHeartbeats 4000000 in
theorem t3_body_eq (t : Fin k0_t1_loop.trips) (a b : BitVec 32) (j : Fin k0_t3_loop.trips) (c : Four F) :
    k0_t3_body i arg2 harg2 arg3 harg3 arg4 harg4 arg5 harg5 arg6 harg6 arg7 harg7 arg8 harg8 arg9 harg9 arg10 arg11
      arg12 arg13 arg14 arg15 v29 v40 k0_pay25 hw1 k0_pay26 hw2 k0_pay27 hw3 k0_pay28 hw4 t a b j c
      = trip i arg5 arg8 hw1 hw2 hw3 hw4 j c := rfl

set_option maxHeartbeats 4000000 in
theorem t4_body_eq (j : Fin k0_t4_loop.trips) (c : Four F) :
    k0_t4_body i arg2 harg2 arg3 harg3 arg4 harg4 arg5 harg5 arg6 harg6 arg7 harg7 arg8 harg8 arg9 harg9 arg10 arg11
      arg12 arg13 arg14 arg15 k0_pay25 hw1 k0_pay26 hw2 k0_pay27 hw3 k0_pay28 hw4 j c
      = trip i arg6 arg9 hw1 hw2 hw3 hw4 j c := rfl

/-- One trip of the outer loop: a turn of each of the three pairs of buffers. -/
def turns (t : Fin k0_t1_loop.trips) : TileProg F i PUnit := do
  let p ← turn (F := F) i arg2 arg3 arg4 arg7 harg7 arg10 arg13 hw1 hw2 hw3 hw4 (later (Scf.iv 0#32 1#32 t)) (k0_cond2 t)
    (k0_off4 i t) (k0_off4_inb i t) (k0_off5 i t 0#32) (k0_off5_inb i t 0)
    (⟨Scf.iv 0#32 1#32 t, Scalar.addi (Scalar.muli (Scf.iv 0#32 1#32 t) 3#32) 1#32⟩ : Σ' (_ : BitVec 32), BitVec 32)
  let _q ← turn (F := F) i arg2 arg3 arg5 arg8 harg8 arg11 arg14 hw1 hw2 hw3 hw4 (later p.1) (k0_cond4 t)
    (k0_off8 i t) (k0_off8_inb i t) (k0_off5 i t 1#32) (k0_off5_inb i t 1)
    (Scalar.addi (Scalar.muli p.1 3#32) 2#32 : BitVec 32)
  turn i arg2 arg3 arg6 arg9 harg9 arg12 arg15 hw1 hw2 hw3 hw4 (later p.1) (k0_cond6 t)
    (k0_off11 i t) (k0_off11_inb i t) (k0_off5 i t 2#32) (k0_off5_inb i t 2) PUnit.unit

set_option maxHeartbeats 4000000 in
theorem t1_body_eq (t : Fin k0_t1_loop.trips) (u : Unit) :
    k0_t1_body (F := F) i arg2 harg2 arg3 harg3 arg4 harg4 arg5 harg5 arg6 harg6 arg7 harg7 arg8 harg8 arg9 harg9 arg10 arg11
      arg12 arg13 arg14 arg15 v29 v40 k0_pay25 hw1 k0_pay26 hw2 k0_pay27 hw3 k0_pay28 hw4 t u
      = turns i arg2 arg3 arg4 arg5 arg6 arg7 harg7 arg8 harg8 arg9 harg9 arg10 arg11 arg12 arg13 arg14 arg15
          hw1 hw2 hw3 hw4 t := rfl

/-- What follows the index checks: start the three input copies, run the turns, wait for the last three outputs. -/
def work : TileProg F i PUnit := do
  fetch i arg2 arg4 arg10 (k0_off1 i 0#32) (k0_off1_inb i 0)
  fetch i arg2 arg5 arg11 (k0_off1 i 32768#32) (k0_off1_inb i 1)
  fetch i arg2 arg6 arg12 (k0_off1 i 65536#32) (k0_off1_inb i 2)
  Scf.Loop.for k0_t1_loop k0_t1_ok ⟨⟩ (fun t _ =>
    turns i arg2 arg3 arg4 arg5 arg6 arg7 harg7 arg8 harg8 arg9 harg9 arg10 arg11 arg12 arg13 arg14 arg15
      hw1 hw2 hw3 hw4 t)
  settle i arg3 arg7 harg7 arg13
  settle i arg3 arg8 harg8 arg14
  settle i arg3 arg9 harg9 arg15
  pure PUnit.unit

set_option maxHeartbeats 4000000 in
theorem body_eq :
    cc0__sc_body (F := F) i arg2 harg2 arg3 harg3 arg4 harg4 arg5 harg5 arg6 harg6 arg7 harg7 arg8 harg8 arg9 harg9 arg10 arg11
      arg12 arg13 arg14 arg15
      = (do
          let h1 ← Prog.lift (TpuEff.assume (k0_chk1 k0_pay25) (k0_chk1.dec k0_pay25))
          let h2 ← Prog.lift (TpuEff.assume (k0_chk2 k0_pay26) (k0_chk2.dec k0_pay26))
          let h3 ← Prog.lift (TpuEff.assume (k0_chk3 k0_pay27) (k0_chk3.dec k0_pay27))
          let h4 ← Prog.lift (TpuEff.assume (k0_chk4 k0_pay28) (k0_chk4.dec k0_pay28))
          work i arg2 arg3 arg4 arg5 arg6 arg7 harg7 arg8 harg8 arg9 harg9 arg10 arg11 arg12 arg13 arg14 arg15
            h1.down h2.down h3.down h4.down) := rfl
end

end Cert.Proof.Pool
-- ==== Proof.Inner.lean ====
/-
  The inner loop: from an input buffer it fills an output buffer with the largest of each four words. One trip writes
  one hundred and twenty-eight words in eight steps of sixteen, each step writing what the step before it read.
-/
module

public import proofs.«01_k».proof.Proof.Program
public import Idealize.ShloMosaic.Lib.ViewIndex

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources the proof runs in -/

/-- The launch handshakes' ghost state beside the copies' counters. -/
abbrev UH : Type := Rounds.URounds (GSem nD τ sig) ℕ
abbrev UU : Type := UH × Counters

local notation "𝕄" => MT nD τ sig (HIx 1) (Elt F) ℕ UU ℕ

abbrev 𝒱₀ : Variants := Variants.none

/-- The thread of the tile a grid point names. -/
abbrev tile (d : Dev nD) (i : grid0.Coords) : Thread nD τ := V d ((i 0).castLE hcore0) ((i 1).castLE hsub0)

/-! ## Words of the buffers, by number -/

/-- The index of word `n` of an input buffer. -/
def iat (n : ℕ) : S32832.Idx := fun a => ⟨n % S32832.size a, Nat.mod_lt _ (by revert a; decide)⟩

/-- The index of word `n` of an output buffer. -/
def oat (n : ℕ) : S8192.Idx := fun a => ⟨n % S8192.size a, Nat.mod_lt _ (by revert a; decide)⟩

theorem iat_val {n : ℕ} (h : n < 32832) : (iat n 0).val = n := Nat.mod_eq_of_lt h
theorem oat_val {n : ℕ} (h : n < 8192) : (oat n 0).val = n := Nat.mod_eq_of_lt h

/-- Word `n` of what an input buffer holds. -/
abbrev word (d : Dev nD) (i : grid0.Coords) (ib : Memref sig .scVector .vmem S32832 .f32)
    (f : Buf (Elt F) (ib.view.loc (tile d i))) (n : ℕ) : Elt F .f32 := ib.view.read (Elt F) f (iat n)

/-- The sixty-four words from `n` on, dealt into four vectors. -/
def lanes (R : ℕ → Elt F .f32) (n : ℕ) : Four F :=
  (fun x => R (n + 4 * (x 0).val), fun x => R (n + 4 * (x 0).val + 1),
    fun x => R (n + 4 * (x 0).val + 2), fun x => R (n + 4 * (x 0).val + 3))

variable [FloatOps F]

/-- The largest of the four words of group `w`. -/
def best (R : ℕ → Elt F .f32) (w : ℕ) : Elt F .f32 :=
  FloatOps.maximumf (FloatOps.maximumf (R (4 * w)) (R (4 * w + 1))) (FloatOps.maximumf (R (4 * w + 2)) (R (4 * w + 3)))

theorem top_lanes (R : ℕ → Elt F .f32) (n : ℕ) (x : S16.Idx) : top (lanes R (4 * n)) x = best R (n + (x 0).val) := by
  show FloatOps.maximumf (FloatOps.maximumf (R (4 * n + 4 * (x 0).val)) (R (4 * n + 4 * (x 0).val + 1)))
    (FloatOps.maximumf (R (4 * n + 4 * (x 0).val + 2)) (R (4 * n + 4 * (x 0).val + 3))) = _
  rw [← Nat.mul_add]; rfl

/-! ## The index vectors: lane `l` of the `k`-th names word `4 l + k` -/

omit [FloatOps F] in
theorem pay_lane : ∀ l : Fin 16, (k0_pay25 (Shape.ofLane l)).toNat = 4 * l.val ∧ (k0_pay26 (Shape.ofLane l)).toNat = 4 * l.val + 1
    ∧ (k0_pay27 (Shape.ofLane l)).toNat = 4 * l.val + 2 ∧ (k0_pay28 (Shape.ofLane l)).toNat = 4 * l.val + 3 := by decide +kernel

omit [FloatOps F] in
theorem ofLane_zero (x : S16.Idx) : Shape.ofLane (x 0) = x := Shape.idx1_ext rfl

omit [FloatOps F] in
theorem pay_val (x : S16.Idx) : (k0_pay25 x).toNat = 4 * (x 0).val ∧ (k0_pay26 x).toNat = 4 * (x 0).val + 1
    ∧ (k0_pay27 x).toNat = 4 * (x 0).val + 2 ∧ (k0_pay28 x).toNat = 4 * (x 0).val + 3 := by
  have h := pay_lane (x 0)
  rwa [ofLane_zero] at h

/-! ## Reading sixty-four words -/

section
variable (d : Dev nD) (i : grid0.Coords) (ib : Memref sig .scVector .vmem S32832 .f32)
  (ob : Memref sig .scVector .vmem S8192 .f32)

omit [FloatOps F] in
/-- A load by an index vector naming word `4 l + k` in lane `l`, of the sixty-four words from `n`. -/
theorem loadIdx_word (f : Buf (Elt F) (ib.view.loc (tile d i))) {n k : ℕ} {o : Fin 1 → ℕ} (hn : o = ![n])
    (ho : ∀ a, o a + S64.size a ≤ S32832.size a) (p : IVec S16 32)
    (hp : ∀ x, (p x).toNat = 4 * (x 0).val + k) (h : ∀ a x, ((![p] : Fin 1 → IVec S16 32) a x).toNat < S64.size a) :
    loadIdx (((ib.slice (Rect.unit (s := S32832) o S64.size ho) (fun _ => rfl)).access (.whole S64)).read (Elt F) f) ![p] h
      = fun x => word d i ib f (n + 4 * (x 0).val + k) := by
  subst hn
  funext x
  have hb : n + 64 ≤ 32832 := ho 0
  have hx : (p x).toNat < 64 := h 0 x
  have h1 := hp x
  show ib.view.read (Elt F) f ((Rect.unit (s := S32832) ![n] S64.size ho).emb ((Rect.whole S64).emb (idxAt ![p] h x))) = _
  refine congrArg (ib.view.read (Elt F) f) (Shape.idx1_ext ?_)
  rw [iat_val (by omega)]
  show n + 1 * (0 + 1 * (p x).toNat) = _
  omega

/-! ## Writing sixteen words -/

/-- The first `n` words of an output buffer hold the largest of each four words of an input buffer. -/
def Done (f : Buf (Elt F) (ib.view.loc (tile d i))) (h : Buf (Elt F) (ob.view.loc (tile d i))) (n : ℕ) : Prop :=
  ∀ w < n, ob.view.read (Elt F) h (oat w) = best (word d i ib f) w

theorem done_step (f : Buf (Elt F) (ib.view.loc (tile d i))) (h : Buf (Elt F) (ob.view.loc (tile d i))) {n : ℕ}
    {p : Fin 1 → ℕ} (hn : p = ![n]) (hp : ∀ a, p a + S16.size a ≤ S8192.size a) (hd : Done d i ib ob f h n) :
    Done d i ib ob f ((ob.access (Rect.unit (s := S8192) p S16.size hp)).write (Elt F) h
      (top (lanes (word d i ib f) (4 * n))) Finset.univ) (n + 16) := by
  subst hn
  have hb : n + 16 ≤ 8192 := hp 0
  intro w hw
  by_cases hlt : w < n
  · rw [← hd w hlt]
    refine View.read_slice_write_of_not_mem _ _ _ _ fun hm => ?_
    obtain ⟨x, -, hx⟩ := Finset.mem_map.mp hm
    have e := congrArg (fun y : S8192.Idx => (y 0).val) hx
    have e' : n + 1 * (x 0).val = (oat w 0).val := e
    rw [oat_val (by omega)] at e'
    omega
  · have hx : oat w = (Rect.unit (s := S8192) ![n] S16.size hp).emb (Shape.ofLane (d := S16.size) ⟨w - n, show w - n < 16 by omega⟩) :=
      Shape.idx1_ext (by
        rw [oat_val (by omega)]
        show w = n + 1 * (w - n)
        omega)
    rw [hx]
    refine (View.read_slice_write_emb _ _ _ (Finset.mem_univ _)).trans ?_
    rw [top_lanes]
    show best _ (n + (w - n)) = _
    rw [Nat.add_sub_cancel' (by omega)]

theorem wp_deal (hw1 : k0_chk1 k0_pay25) (hw2 : k0_chk2 k0_pay26) (hw3 : k0_chk3 k0_pay27) (hw4 : k0_chk4 k0_pay28)
    {n : ℕ} {o : Fin 1 → ℕ} (hn : o = ![n]) (ho : ∀ a, o a + S64.size a ≤ S32832.size a)
    {f : Buf (Elt F) (ib.view.loc (tile d i))} {α : Type} {k : Four F → TileProg F i α} {Q : α → sProp 𝕄} :
    (ib.view.loc (tile d i) ↦[ib.view.set]{fullShare} f)
      ⊢ iprop(((ib.view.loc (tile d i) ↦[ib.view.set]{fullShare} f)
          -∗ wp frame (wpE (defs₀ (F := F)) 𝒱₀ (tile d i) none) Set.univ (k (lanes (word d i ib f) n)) Q)
        -∗ wp frame (wpE (defs₀ (F := F)) 𝒱₀ (tile d i) none) Set.univ (deal i ib hw1 hw2 hw3 hw4 o ho >>= k) Q) := by
  have hS : ((ib.slice (Rect.unit (s := S32832) o S64.size ho) (fun _ => rfl)).access (.whole S64)).set ⊆ ib.view.set :=
    (View.set_slice_subset (ib.view.slice (Rect.unit (s := S32832) o S64.size ho)) (.whole S64)).trans (View.set_slice_subset ib.view _)
  have e : lanes (word d i ib f) n = (_, _, _, _) := Prod.ext
    (loadIdx_word d i ib f hn ho k0_pay25 (k := 0) (fun x => (pay_val x).1) (k0_idx5_inb k0_pay25 hw1)).symm (Prod.ext
    (loadIdx_word d i ib f hn ho k0_pay26 (fun x => (pay_val x).2.1) (k0_idx6_inb k0_pay26 hw2)).symm (Prod.ext
    (loadIdx_word d i ib f hn ho k0_pay27 (fun x => (pay_val x).2.2.1) (k0_idx7_inb k0_pay27 hw3)).symm
    (loadIdx_word d i ib f hn ho k0_pay28 (fun x => (pay_val x).2.2.2) (k0_idx8_inb k0_pay28 hw4)).symm))
  rw [e]
  unfold deal
  simp only [bind_assoc, pure_bind]
  iintro H Hk
  iapply (SparseCore.wp_vectorLoadIdx 𝒱₀ (tile d i) none Set.univ hS) $$ [H]; · iexact H
  iintro H
  iapply (SparseCore.wp_vectorLoadIdx 𝒱₀ (tile d i) none Set.univ hS) $$ [H]; · iexact H
  iintro H
  iapply (SparseCore.wp_vectorLoadIdx 𝒱₀ (tile d i) none Set.univ hS) $$ [H]; · iexact H
  iintro H
  iapply (SparseCore.wp_vectorLoadIdx 𝒱₀ (tile d i) none Set.univ hS) $$ [H]; · iexact H
  iintro H
  iapply Hk $$ H

theorem wp_step (hw1 : k0_chk1 k0_pay25) (hw2 : k0_chk2 k0_pay26) (hw3 : k0_chk3 k0_pay27) (hw4 : k0_chk4 k0_pay28)
    {n : ℕ} {o : Fin 1 → ℕ} (hn : o = ![4 * (n + 16)]) (ho : ∀ a, o a + S64.size a ≤ S32832.size a)
    {p : Fin 1 → ℕ} (hm : p = ![n]) (hp : ∀ a, p a + S16.size a ≤ S8192.size a)
    {f : Buf (Elt F) (ib.view.loc (tile d i))} {α : Type} {k : Four F → TileProg F i α} {Q : α → sProp 𝕄} :
    iprop((ib.view.loc (tile d i) ↦[ib.view.set]{fullShare} f)
        ∗ ∃ h, ⌜Done d i ib ob f h n⌝ ∗ (ob.view.loc (tile d i) ↦[ob.view.set]{fullShare} h))
      ⊢ iprop((((ib.view.loc (tile d i) ↦[ib.view.set]{fullShare} f)
            ∗ ∃ h, ⌜Done d i ib ob f h (n + 16)⌝ ∗ (ob.view.loc (tile d i) ↦[ob.view.set]{fullShare} h))
          -∗ wp frame (wpE (defs₀ (F := F)) 𝒱₀ (tile d i) none) Set.univ (k (lanes (word d i ib f) (4 * (n + 16)))) Q)
        -∗ wp frame (wpE (defs₀ (F := F)) 𝒱₀ (tile d i) none) Set.univ
          (step i ib ob hw1 hw2 hw3 hw4 o ho p hp (lanes (word d i ib f) (4 * n)) >>= k) Q) := by
  have hS : (ob.access (Rect.unit (s := S8192) p S16.size hp)).set ⊆ ob.view.set := View.set_slice_subset ob.view _
  unfold step
  simp only [bind_assoc]
  iintro ⟨H, %h, %hd, Ho⟩ Hk
  iapply (wp_deal d i ib hw1 hw2 hw3 hw4 hn ho) $$ [H]; · iexact H
  iintro H
  iapply (wp_load_rect 𝒱₀ (tile d i) none Set.univ hS) $$ [Ho]; · iexact Ho
  iintro Ho
  iapply (wp_store 𝒱₀ (tile d i) none Set.univ hS) $$ [Ho]; · iexact Ho
  iintro Ho
  iapply Hk
  isplitl [H]; · iexact H
  iexists _
  isplitr; · ipureintro; exact done_step d i ib ob f h hm hp hd
  iexact Ho

omit [FloatOps F] in
theorem off2_at (j : Fin k0_t2_loop.trips) (r : Fin 8) {n : ℕ} (h : 128 * j.val + 16 * r.val = n) :
    k0_off2 j (BitVec.ofNat 32 (64 + 64 * r.val)) = ![4 * (n + 16)] := by
  rw [k0_off2_eq, ← h]; exact congrArg (fun n => ![n]) (by omega)

omit [FloatOps F] in
theorem off3_at (j : Fin k0_t2_loop.trips) (r : Fin 8) {n : ℕ} (h : 128 * j.val + 16 * r.val = n) :
    k0_off3 j (BitVec.ofNat 32 (16 * r.val)) = ![n] := by
  rw [k0_off3_eq, ← h]

/-- What holds between trips: the first `128 j` words are done and the next sixty-four words are read. -/
def Inv (f : Buf (Elt F) (ib.view.loc (tile d i))) (j : ℕ) (acc : Four F) : sProp 𝕄 :=
  iprop(⌜acc = lanes (word d i ib f) (4 * (128 * j))⌝ ∗ (ib.view.loc (tile d i) ↦[ib.view.set]{fullShare} f)
    ∗ ∃ h, ⌜Done d i ib ob f h (128 * j)⌝ ∗ (ob.view.loc (tile d i) ↦[ob.view.set]{fullShare} h))

theorem wp_trip (hw1 : k0_chk1 k0_pay25) (hw2 : k0_chk2 k0_pay26) (hw3 : k0_chk3 k0_pay27) (hw4 : k0_chk4 k0_pay28)
    (f : Buf (Elt F) (ib.view.loc (tile d i))) (j : Fin k0_t2_loop.trips) (acc : Four F) :
    Inv d i ib ob f j.val acc ⊢ wp frame (wpE (defs₀ (F := F)) 𝒱₀ (tile d i) none) Set.univ
      (trip i ib ob hw1 hw2 hw3 hw4 j acc) (Inv d i ib ob f (j.val + 1)) := by
  unfold Inv trip
  iintro ⟨%hacc, H⟩
  subst hacc
  iapply (wp_step d i ib ob hw1 hw2 hw3 hw4 (n := 128 * j.val) (off2_at j 0 (show 128 * j.val + 16 * 0 = _ by omega)) (k0_off2_inb j 0)
    (off3_at j 0 (show 128 * j.val + 16 * 0 = _ by omega)) (k0_off3_inb j 0)) $$ [H]; · iexact H
  iintro H
  iapply (wp_step d i ib ob hw1 hw2 hw3 hw4 (n := 128 * j.val + 16) (off2_at j 1 (show 128 * j.val + 16 * 1 = _ by omega)) (k0_off2_inb j 1)
    (off3_at j 1 (show 128 * j.val + 16 * 1 = _ by omega)) (k0_off3_inb j 1)) $$ [H]; · iexact H
  iintro H
  iapply (wp_step d i ib ob hw1 hw2 hw3 hw4 (n := 128 * j.val + 16 + 16) (off2_at j 2 (show 128 * j.val + 16 * 2 = _ by omega)) (k0_off2_inb j 2)
    (off3_at j 2 (show 128 * j.val + 16 * 2 = _ by omega)) (k0_off3_inb j 2)) $$ [H]; · iexact H
  iintro H
  iapply (wp_step d i ib ob hw1 hw2 hw3 hw4 (n := 128 * j.val + 16 + 16 + 16) (off2_at j 3 (show 128 * j.val + 16 * 3 = _ by omega)) (k0_off2_inb j 3)
    (off3_at j 3 (show 128 * j.val + 16 * 3 = _ by omega)) (k0_off3_inb j 3)) $$ [H]; · iexact H
  iintro H
  iapply (wp_step d i ib ob hw1 hw2 hw3 hw4 (n := 128 * j.val + 16 + 16 + 16 + 16) (off2_at j 4 (show 128 * j.val + 16 * 4 = _ by omega)) (k0_off2_inb j 4)
    (off3_at j 4 (show 128 * j.val + 16 * 4 = _ by omega)) (k0_off3_inb j 4)) $$ [H]; · iexact H
  iintro H
  iapply (wp_step d i ib ob hw1 hw2 hw3 hw4 (n := 128 * j.val + 16 + 16 + 16 + 16 + 16) (off2_at j 5 (show 128 * j.val + 16 * 5 = _ by omega)) (k0_off2_inb j 5)
    (off3_at j 5 (show 128 * j.val + 16 * 5 = _ by omega)) (k0_off3_inb j 5)) $$ [H]; · iexact H
  iintro H
  iapply (wp_step d i ib ob hw1 hw2 hw3 hw4 (n := 128 * j.val + 16 + 16 + 16 + 16 + 16 + 16) (off2_at j 6 (show 128 * j.val + 16 * 6 = _ by omega)) (k0_off2_inb j 6)
    (off3_at j 6 (show 128 * j.val + 16 * 6 = _ by omega)) (k0_off3_inb j 6)) $$ [H]; · iexact H
  iintro H
  iapply (wp_step d i ib ob hw1 hw2 hw3 hw4 (n := 128 * j.val + 16 + 16 + 16 + 16 + 16 + 16 + 16) (off2_at j 7 (show 128 * j.val + 16 * 7 = _ by omega)) (k0_off2_inb j 7)
    (off3_at j 7 (show 128 * j.val + 16 * 7 = _ by omega)) (k0_off3_inb j 7)) $$ [H]; · iexact H
  iintro H
  sl_step
  rw [show 128 * (j.val + 1) = 128 * j.val + 16 + 16 + 16 + 16 + 16 + 16 + 16 + 16 by omega]
  isplitr; · ipureintro; rfl
  iexact H

/-- The loop: an output buffer filled from an input buffer. -/
theorem wp_inner (hw1 : k0_chk1 k0_pay25) (hw2 : k0_chk2 k0_pay26) (hw3 : k0_chk3 k0_pay27) (hw4 : k0_chk4 k0_pay28)
    {f : Buf (Elt F) (ib.view.loc (tile d i))} {h : Buf (Elt F) (ob.view.loc (tile d i))}
    {α : Type} {k : Four F → TileProg F i α} {Q : α → sProp 𝕄} :
    iprop((ib.view.loc (tile d i) ↦[ib.view.set]{fullShare} f) ∗ (ob.view.loc (tile d i) ↦[ob.view.set]{fullShare} h))
      ⊢ iprop((∀ acc, ((ib.view.loc (tile d i) ↦[ib.view.set]{fullShare} f)
            ∗ ∃ h, ⌜Done d i ib ob f h 8192⌝ ∗ (ob.view.loc (tile d i) ↦[ob.view.set]{fullShare} h))
          -∗ wp frame (wpE (defs₀ (F := F)) 𝒱₀ (tile d i) none) Set.univ (k acc) Q)
        -∗ wp frame (wpE (defs₀ (F := F)) 𝒱₀ (tile d i) none) Set.univ
          (Scf.Loop.for k0_t2_loop k0_t2_ok (lanes (word d i ib f) 0) (trip i ib ob hw1 hw2 hw3 hw4) >>= k) Q) := by
  iintro ⟨H, Ho⟩ Hk
  iapply (Scf.wp_for_bind frame (wpE (defs₀ (F := F)) 𝒱₀ (tile d i) none) Set.univ k0_t2_loop.lb k0_t2_loop.ub k0_t2_loop.st
    k0_t2_ok _ _ (Inv d i ib ob f) (fun j acc => wp_trip d i ib ob hw1 hw2 hw3 hw4 f j acc)) $$ [H Ho]
  · unfold Inv
    isplitr; · ipureintro; rfl
    isplitl [H]; · iexact H
    iexists h
    isplitr; · ipureintro; exact fun w hw => absurd hw (by omega)
    iexact Ho
  iintro %acc HI
  unfold Inv
  icases HI with ⟨-, HI⟩
  iapply Hk
  iexact HI

end

end Cert.Proof.Pool
-- ==== Proof.Copies.lean ====
/-
  The copies between the arrays and a tile's buffers. The words of `x` are cut into 768 chunks of 32768, those of the
  result into 768 chunks of 8192; chunk `n` of the result comes from chunk `n` of `x`.
-/
module

public import proofs.«01_k».proof.Proof.Inner

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

/-- Where the copies' counters sit in the ghost state. -/
abbrev EC : UEmb Counters 𝕄 := countersEmb

/-- The arrays, as a tile names them. -/
abbrev xM : Memref sig .scVector .hbm S8x3145728 .f32 := Memref.whole main_arg0_scv
abbrev yM : Memref sig .scVector .hbm S8x786432 .f32 := Memref.whole main_v0_scv

/-- Where the arrays are. -/
abbrev xLoc (d : Dev nD) : Loc nD τ sig := (SparseCore.T d).loc main_arg0
abbrev yLoc (d : Dev nD) : Loc nD τ sig := (SparseCore.T d).loc main_v0

/-! ## Chunks -/

/-- The elements of chunk `n` of `x`. -/
def xset (n : ℕ) : Finset S8x3145728.Idx := Finset.univ.filter fun p => (p 0).val * 96 + (p 1).val / 32768 = n

/-- The elements of chunk `n` of the result. -/
def yset (n : ℕ) : Finset S8x786432.Idx := Finset.univ.filter fun p => (p 0).val * 96 + (p 1).val / 8192 = n

theorem mem_xset {n : ℕ} {p : S8x3145728.Idx} : p ∈ xset n ↔ (p 0).val * 96 + (p 1).val / 32768 = n := by
  unfold xset; rw [Finset.mem_filter]; exact and_iff_right (Finset.mem_univ _)

theorem mem_yset {n : ℕ} {p : S8x786432.Idx} : p ∈ yset n ↔ (p 0).val * 96 + (p 1).val / 8192 = n := by
  unfold yset; rw [Finset.mem_filter]; exact and_iff_right (Finset.mem_univ _)

/-- Where the window of chunk `n` begins. -/
abbrev xoff (n : ℕ) : Fin 2 → ℕ := ![n / 96, n % 96 * 32768]
abbrev yoff (n : ℕ) : Fin 2 → ℕ := ![n / 96, n % 96 * 8192]

theorem xwin_emb {n : ℕ} {o : Fin 2 → ℕ} (hn : o = xoff n) (ho : ∀ a, o a + S1x32768.size a ≤ S8x3145728.size a) (z : S32768.Idx) :
    (((xwin xM o ho).view.emb z : S8x3145728.Idx) 0).val = n / 96
      ∧ (((xwin xM o ho).view.emb z : S8x3145728.Idx) 1).val = n % 96 * 32768 + (z 0).val := by
  subst hn
  have e : ((xwin xM (xoff n) ho).view.emb z : S8x3145728.Idx)
      = (Rect.unit (s := S8x3145728) (xoff n) S1x32768.size ho).emb (Fin.cons ⟨0, Nat.one_pos⟩ z) :=
    congrArg (Rect.unit (s := S8x3145728) (xoff n) S1x32768.size ho).emb (Shape.reshapeEquiv_cons_one _ z)
  rw [e]
  refine ⟨?_, ?_⟩
  · show n / 96 + 1 * 0 = _
    omega
  · show n % 96 * 32768 + 1 * (z 0).val = _
    omega

theorem ywin_emb {n : ℕ} {o : Fin 2 → ℕ} (hn : o = yoff n) (ho : ∀ a, o a + S1x8192.size a ≤ S8x786432.size a) (z : S8192.Idx) :
    (((owin yM o ho).view.emb z : S8x786432.Idx) 0).val = n / 96
      ∧ (((owin yM o ho).view.emb z : S8x786432.Idx) 1).val = n % 96 * 8192 + (z 0).val := by
  subst hn
  have e : ((owin yM (yoff n) ho).view.emb z : S8x786432.Idx)
      = (Rect.unit (s := S8x786432) (yoff n) S1x8192.size ho).emb (Fin.cons ⟨0, Nat.one_pos⟩ z) :=
    congrArg (Rect.unit (s := S8x786432) (yoff n) S1x8192.size ho).emb (Shape.reshapeEquiv_cons_one _ z)
  rw [e]
  refine ⟨?_, ?_⟩
  · show n / 96 + 1 * 0 = _
    omega
  · show n % 96 * 8192 + 1 * (z 0).val = _
    omega

theorem xwin_set {n : ℕ} {o : Fin 2 → ℕ} (hn : o = xoff n) (ho : ∀ a, o a + S1x32768.size a ≤ S8x3145728.size a) :
    ((xwin xM o ho).view.set : Finset S8x3145728.Idx) = xset n := by
  subst hn
  show ((View.slice (View.whole main_arg0_scv) (Rect.unit (s := S8x3145728) (xoff n) S1x32768.size ho)).reshape S32768 _).set = _
  rw [View.set_reshape, View.set_slice_whole]
  ext p
  rw [Rect.mem_set_unit, mem_xset]
  have h1 := (p 1).isLt
  constructor
  · intro h
    have a : n / 96 ≤ (p 0).val ∧ (p 0).val < n / 96 + 1 := h 0
    have b : n % 96 * 32768 ≤ (p 1).val ∧ (p 1).val < n % 96 * 32768 + 32768 := h 1
    omega
  · intro h
    have h1 : (p 1).val < 3145728 := (p 1).isLt
    refine Fin.forall_fin_two.mpr ⟨?_, ?_⟩
    · show n / 96 ≤ (p 0).val ∧ (p 0).val < n / 96 + 1
      omega
    · show n % 96 * 32768 ≤ (p 1).val ∧ (p 1).val < n % 96 * 32768 + 32768
      omega

theorem ywin_set {n : ℕ} {o : Fin 2 → ℕ} (hn : o = yoff n) (ho : ∀ a, o a + S1x8192.size a ≤ S8x786432.size a) :
    ((owin yM o ho).view.set : Finset S8x786432.Idx) = yset n := by
  subst hn
  show ((View.slice (View.whole main_v0_scv) (Rect.unit (s := S8x786432) (yoff n) S1x8192.size ho)).reshape S8192 _).set = _
  rw [View.set_reshape, View.set_slice_whole]
  ext p
  rw [Rect.mem_set_unit, mem_yset]
  constructor
  · intro h
    have a : n / 96 ≤ (p 0).val ∧ (p 0).val < n / 96 + 1 := h 0
    have b : n % 96 * 8192 ≤ (p 1).val ∧ (p 1).val < n % 96 * 8192 + 8192 := h 1
    omega
  · intro h
    have h1 : (p 1).val < 786432 := (p 1).isLt
    refine Fin.forall_fin_two.mpr ⟨?_, ?_⟩
    · show n / 96 ≤ (p 0).val ∧ (p 0).val < n / 96 + 1
      omega
    · show n % 96 * 8192 ≤ (p 1).val ∧ (p 1).val < n % 96 * 8192 + 8192
      omega

/-! ## Words of the arrays, by number -/

/-- The index of word `n` of `x`. -/
def xat (n : ℕ) : S8x3145728.Idx :=
  Fin.cons (⟨n / 3145728 % 8, Nat.mod_lt _ (by decide)⟩ : Fin 8) (Fin.cons (⟨n % 3145728, Nat.mod_lt _ (by decide)⟩ : Fin 3145728) nofun)

/-- Word `n` of `x`. -/
def xword {d : Dev nD} (mx : Buf (Elt F) (xLoc d)) (n : ℕ) : Elt F .f32 := (mx : S8x3145728.Idx → Elt F .f32) (xat n)

/-- The result: the largest of each four words of `x` in a row. -/
def res [FloatOps F] {d : Dev nD} (mx : Buf (Elt F) (xLoc d)) : Buf (Elt F) (yLoc d) :=
  (fun p : S8x786432.Idx => best (xword mx) ((p 0).val * 786432 + (p 1).val) : S8x786432.Idx → Elt F .f32)

/-- Chunk `n` of `x`, held. -/
abbrev xPart (d : Dev nD) (mx : Buf (Elt F) (xLoc d)) (n : ℕ) : sProp 𝕄 := xLoc d ↦[xset n]{fullShare} mx

/-- Chunk `n` of the result's array, held with contents `f`. -/
abbrev yPart (d : Dev nD) (f : Buf (Elt F) (yLoc d)) (n : ℕ) : sProp 𝕄 := yLoc d ↦[yset n]{fullShare} f

section
variable (d : Dev nD) (i : grid0.Coords) (ib : Memref sig .scVector .vmem S32832 .f32)
  (ob : Memref sig .scVector .vmem S8192 .f32) (mx : Buf (Elt F) (xLoc d))

/-- An input buffer holding chunk `n` of `x`. -/
def Loaded (n : ℕ) : sProp 𝕄 :=
  iprop(∃ f, ⌜∀ w < 32768, word d i ib f w = xword mx (32768 * n + w)⌝ ∗ (ib.view.loc (tile d i) ↦[ib.view.set]{fullShare} f))

/-- An output buffer, whatever it holds. -/
def Free : sProp 𝕄 := iprop(∃ h, ob.view.loc (tile d i) ↦[ob.view.set]{fullShare} h)

/-- What a copy of chunk `n` of `x` adds to its semaphore; what a copy into the result adds. -/
abbrev NX (ib : Memref sig .scVector .vmem S32832 .f32) : ℕ := (ifill ib).view.dmaCredit
abbrev NY : ℕ := (owin yM ![0, 0] inb_S8x786432_S1x8192_0_0).view.dmaCredit

/-- A copy of chunk `n` of `x` under way. -/
abbrev InFlight (si : DmaSems sig S_) (n : ℕ) : sProp 𝕄 :=
  Flight EC (tile d i) (.dma si.sem) (none : HIx 1) (NX ib) iprop(Loaded d i ib mx n ∗ xPart d mx n)

/-- What the tile owes: as at the start, with waits of its own recorded. -/
def Owe (O : CellTallies nD τ sig (HIx 1)) (W : Waits sig (HIx 1)) : sProp 𝕄 :=
  iprop(∃ W', ⌜∀ p ∈ W', p ∈ W ∨ p.2 = none⌝ ∗ owes (tile d i) O W')

theorem owe_insert {O : CellTallies nD τ sig (HIx 1)} {W W' : Waits sig (HIx 1)} {s : SemLoc sig}
    (h : ∀ p ∈ W', p ∈ W ∨ p.2 = none) :
    (owes (tile d i) O (insert (s, none) W') : sProp 𝕄) ⊢ Owe d i O W := by
  unfold Owe
  iintro H
  iexists (insert (s, none) W')
  isplitr
  · ipureintro; intro p hp
    rcases Finset.mem_insert.mp hp with hp | hp
    · exact .inr (by rw [hp])
    · exact h p hp
  iexact H

/-- What a copy of chunk `n` writes into an input buffer, word by word. -/
theorem fill_word {n : ℕ} (hlt : n < 768) {o : Fin 2 → ℕ} (hn : o = xoff n) (ho : ∀ a, o a + S1x32768.size a ≤ S8x3145728.size a)
    (f : Buf (Elt F) (ib.view.loc (tile d i))) {w : ℕ} (hw : w < 32768) :
    word d i ib ((ifill ib).view.write (Elt F) f
      (ReadAs.same.apply ((xwin xM o ho).view.read (Elt F) (mx : Buf (Elt F) ((xwin xM o ho).view.loc (tile d i))))) Finset.univ) w
      = xword mx (32768 * n + w) := by
  have hx : iat w = (Rect.unit (s := S32832) ![0] S32768.size inb_S32832_S32768_0).emb
      (Shape.ofLane (d := S32768.size) ⟨w, show w < 32768 from hw⟩) :=
    Shape.idx1_ext (by
      rw [iat_val (by omega)]
      show w = 0 + 1 * w
      omega)
  show ib.view.read (Elt F) _ (iat w) = _
  rw [hx]
  refine (View.read_slice_write_emb _ _ _ (Finset.mem_univ _)).trans ?_
  have e := xwin_emb hn ho (Shape.ofLane (d := S32768.size) ⟨w, show w < 32768 from hw⟩)
  show (mx : S8x3145728.Idx → Elt F .f32) ((xwin xM o ho).view.emb _) = (mx : S8x3145728.Idx → Elt F .f32) (xat (32768 * n + w))
  refine congrArg (mx : S8x3145728.Idx → Elt F .f32) (funext (Fin.forall_fin_two.mpr ⟨Fin.ext ?_, Fin.ext ?_⟩))
  · rw [e.1]
    show n / 96 = (32768 * n + w) / 3145728 % 8
    omega
  · rw [e.2]
    show n % 96 * 32768 + w = (32768 * n + w) % 3145728
    omega

variable [FloatOps F]

/-- An output buffer holding chunk `n` of the result. -/
def Ready (n : ℕ) : sProp 𝕄 :=
  iprop(∃ h, ⌜∀ w < 8192, ob.view.read (Elt F) h (oat w) = best (xword mx) (8192 * n + w)⌝ ∗ (ob.view.loc (tile d i) ↦[ob.view.set]{fullShare} h))

/-- A copy of chunk `n` of the result under way. -/
abbrev OutFlight (so : DmaSems sig S_) (n : ℕ) : sProp 𝕄 :=
  Flight EC (tile d i) (.dma so.sem) (none : HIx 1) NY iprop(yPart d (res mx) n ∗ Free d i ob)

theorem wp_fetch (si : DmaSems sig S_) {n : ℕ} (hlt : n < 768) {o : Fin 2 → ℕ} (hn : o = xoff n)
    (ho : ∀ a, o a + S1x32768.size a ≤ S8x3145728.size a)
    {α : Type} {k : PUnit → TileProg F i α} {Q : α → sProp 𝕄} :
    iprop(xPart d mx n ∗ (∃ f, ib.view.loc (tile d i) ↦[ib.view.set]{fullShare} f) ∗ semVal (tile d i, .dma si.sem) 0)
      ⊢ iprop((InFlight d i ib mx si n -∗ wp frame (wpE (defs₀ (F := F)) 𝒱₀ (tile d i) none) Set.univ (k ⟨⟩) Q)
        -∗ wp frame (wpE (defs₀ (F := F)) 𝒱₀ (tile d i) none) Set.univ (fetch i xM ib si o ho >>= k) Q) := by
  have hS : (ifill ib).view.set ⊆ ib.view.set := View.set_slice_subset ib.view _
  have hx : (xPart d mx n : sProp 𝕄)
      = ((xwin xM o ho).view.loc (tile d i) ↦[(xwin xM o ho).view.set]{fullShare} mx) := by rw [xwin_set hn ho]
  rw [hx]
  iintro ⟨Hx, ⟨%f, Hf⟩, Hs⟩ Hk
  iapply (wp_dmaLocal EC 𝒱₀ (tile d i) none (none : HIx 1) (NX ib) rfl (View.dmaCredit_pos _ (by decide)) hS) $$ [Hx Hf Hs]
  · isplitl [Hx]; · iexact Hx
    isplitl [Hf]; · iexact Hf
    iexact Hs
  iintro HF
  iapply Hk
  iapply (Flight_mono EC (tile d i) ?_) $$ HF
  rw [hx]
  iintro ⟨Hf, Hx⟩
  isplitl [Hf]
  · unfold Loaded
    iexists _
    isplitr
    · ipureintro; exact fun w hw => fill_word d i ib mx hlt hn ho f hw
    iexact Hf
  iexact Hx

theorem wp_await (si : DmaSems sig S_) {n : ℕ} {O : CellTallies nD τ sig (HIx 1)} {W : Waits sig (HIx 1)}
    {α : Type} {k : PUnit → TileProg F i α} {Q : α → sProp 𝕄} :
    iprop(MayWaits (tile d i) (none : HIx 1) O ∗ InFlight d i ib mx si n ∗ Owe d i O W)
      ⊢ iprop(((Loaded d i ib mx n ∗ xPart d mx n ∗ semVal (tile d i, .dma si.sem) 0 ∗ Owe d i O W)
          -∗ wp frame (wpE (defs₀ (F := F)) 𝒱₀ (tile d i) none) Set.univ (k ⟨⟩) Q)
        -∗ wp frame (wpE (defs₀ (F := F)) 𝒱₀ (tile d i) none) Set.univ (await i xM ib si >>= k) Q) := by
  iintro ⟨Hm, HF, HO⟩ Hk
  unfold Owe
  icases HO with ⟨%W', %hW', HO⟩
  iapply (wp_waitLocalO EC 𝒱₀ (tile d i) none (none : HIx 1) (N := NX ib) rfl) $$ [Hm HF HO]
  · isplitl [HF]; · iexact HF
    isplitl [HO]; · iexact HO
    iapply (MayWaits.elim _); iexact Hm
  iintro ⟨⟨Hl, Hx⟩, Hs, HO⟩
  iapply Hk
  isplitl [Hl]; · iexact Hl
  isplitl [Hx]; · iexact Hx
  isplitl [Hs]; · iexact Hs
  ihave HO := (owe_insert d i hW') $$ HO
  unfold Owe
  iexact HO

/-- What a copy of chunk `n` writes into the result. -/
theorem emit_part {n : ℕ} (hlt : n < 768) {o : Fin 2 → ℕ} (hn : o = yoff n) (ho : ∀ a, o a + S1x8192.size a ≤ S8x786432.size a)
    (my : Buf (Elt F) (yLoc d)) (h : Buf (Elt F) (ob.view.loc (tile d i)))
    (hh : ∀ w < 8192, ob.view.read (Elt F) h (oat w) = best (xword mx) (8192 * n + w)) :
    ((owin yM o ho).view.loc (tile d i) ↦[(owin yM o ho).view.set]{fullShare}
        ((owin yM o ho).view.write (Elt F) (my : Buf (Elt F) ((owin yM o ho).view.loc (tile d i)))
          (ReadAs.same.apply (ob.view.read (Elt F) h)) Finset.univ) : sProp 𝕄)
      = yPart d (res mx) n := by
  have e : (yPart d (res mx) n : sProp 𝕄)
      = ((owin yM o ho).view.loc (tile d i) ↦[(owin yM o ho).view.set]{fullShare} (res mx)) := by rw [ywin_set hn ho]
  rw [e]
  refine pointsTo_congr fun p hp => ?_
  obtain ⟨z, -, rfl⟩ := Finset.mem_map.mp hp
  refine (View.write_emb_of_mem _ _ (Finset.mem_univ z)).trans ?_
  show ob.view.read (Elt F) h z = best (xword mx) ((((owin yM o ho).view.emb z : S8x786432.Idx) 0).val * 786432 + (((owin yM o ho).view.emb z : S8x786432.Idx) 1).val)
  have hz : (z 0).val < 8192 := (z 0).isLt
  have hr := hh (z 0).val hz
  rw [show oat (z 0).val = z from Shape.idx1_ext (oat_val hz)] at hr
  rw [(ywin_emb hn ho z).1, (ywin_emb hn ho z).2, hr]
  exact congrArg _ (by omega)

theorem wp_emit (so : DmaSems sig S_) (hob : ob.IsWhole) (my : Buf (Elt F) (yLoc d)) {n : ℕ} (hlt : n < 768) {o : Fin 2 → ℕ}
    (hn : o = yoff n) (ho : ∀ a, o a + S1x8192.size a ≤ S8x786432.size a)
    {α : Type} {k : PUnit → TileProg F i α} {Q : α → sProp 𝕄} :
    iprop(yPart d my n ∗ Ready d i ob mx n ∗ semVal (tile d i, .dma so.sem) 0)
      ⊢ iprop((OutFlight d i ob mx so n -∗ wp frame (wpE (defs₀ (F := F)) 𝒱₀ (tile d i) none) Set.univ (k ⟨⟩) Q)
        -∗ wp frame (wpE (defs₀ (F := F)) 𝒱₀ (tile d i) none) Set.univ (emit i yM ob hob so o ho >>= k) Q) := by
  have hy : (yPart d my n : sProp 𝕄)
      = ((owin yM o ho).view.loc (tile d i) ↦[(owin yM o ho).view.set]{fullShare} my) := by rw [ywin_set hn ho]
  rw [hy]
  unfold Ready
  iintro ⟨Hy, ⟨%h, %hh, Hh⟩, Hs⟩ Hk
  iapply (wp_dmaLocal EC 𝒱₀ (tile d i) none (none : HIx 1) NY rfl (View.dmaCredit_pos _ (by decide)) (Finset.Subset.refl _)) $$ [Hy Hh Hs]
  · isplitl [Hh]; · iexact Hh
    isplitl [Hy]; · iexact Hy
    iexact Hs
  iintro HF
  iapply Hk
  iapply (Flight_mono EC (tile d i) ?_) $$ HF
  iintro ⟨Hy, Hh⟩
  isplitl [Hy]
  · iapply (Entails.of_eq (emit_part d i ob mx hlt hn ho my h hh)); iexact Hy
  unfold Free
  iexists _
  iexact Hh

theorem wp_settle (so : DmaSems sig S_) (hob : ob.IsWhole) {n : ℕ} {O : CellTallies nD τ sig (HIx 1)} {W : Waits sig (HIx 1)}
    {α : Type} {k : PUnit → TileProg F i α} {Q : α → sProp 𝕄} :
    iprop(MayWaits (tile d i) (none : HIx 1) O ∗ OutFlight d i ob mx so n ∗ Owe d i O W)
      ⊢ iprop(((yPart d (res mx) n ∗ Free d i ob ∗ semVal (tile d i, .dma so.sem) 0 ∗ Owe d i O W)
          -∗ wp frame (wpE (defs₀ (F := F)) 𝒱₀ (tile d i) none) Set.univ (k ⟨⟩) Q)
        -∗ wp frame (wpE (defs₀ (F := F)) 𝒱₀ (tile d i) none) Set.univ (settle i yM ob hob so >>= k) Q) := by
  iintro ⟨Hm, HF, HO⟩ Hk
  unfold Owe
  icases HO with ⟨%W', %hW', HO⟩
  iapply (wp_waitLocalO EC 𝒱₀ (tile d i) none (none : HIx 1) (N := NY) rfl) $$ [Hm HF HO]
  · isplitl [HF]; · iexact HF
    isplitl [HO]; · iexact HO
    iapply (MayWaits.elim _); iexact Hm
  iintro ⟨⟨Hy, Hh⟩, Hs, HO⟩
  iapply Hk
  isplitl [Hy]; · iexact Hy
  isplitl [Hh]; · iexact Hh
  isplitl [Hs]; · iexact Hs
  ihave HO := (owe_insert d i hW') $$ HO
  unfold Owe
  iexact HO

end

end Cert.Proof.Pool
-- ==== Proof.Turn.lean ====
/-
  The turn of one pair of buffers. Before turn `t` a copy of the pair's chunk `t` of `x` is under way, and, unless it is
  the first turn, a copy of its chunk `t - 1` of the result; after the turn the same holds at `t + 1`.
-/
module

public import proofs.«01_k».proof.Proof.Copies

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

/-- Take one part out of eight, leaving nothing in its place. -/
theorem pull {Φ Ψ : Fin 8 → sProp 𝕄} (j : Fin 8) (hj : Ψ j = iprop(emp)) (h : ∀ k, k ≠ j → Φ k = Ψ k) :
    bigSep Finset.univ Φ = iprop(Φ j ∗ bigSep Finset.univ Ψ) := by
  rw [SparseCore.bigSep_erase' (Finset.mem_univ j), SparseCore.bigSep_erase' (Φ := Ψ) (Finset.mem_univ j), hj,
    show iprop(emp ∗ bigSep (Finset.univ.erase j) Ψ) = bigSep (Finset.univ.erase j) Ψ from equiv_iff.mp BI.emp_sep,
    bigSep_congr fun k hk => h k (Finset.ne_of_mem_erase hk)]

section
variable (d : Dev nD) (i : grid0.Coords) (ib : Memref sig .scVector .vmem S32832 .f32)
  (ob : Memref sig .scVector .vmem S8192 .f32) (mx : Buf (Elt F) (xLoc d)) (my : Buf (Elt F) (yLoc d))
  (si so : DmaSems sig S_) (c : ℕ → ℕ)

/-- All the pair's chunks of `x`. -/
def XAll : sProp 𝕄 := bigSep Finset.univ fun k : Fin 8 => xPart d mx (c k.val)

/-- All but chunk `t`. -/
def XRest (t : ℕ) : sProp 𝕄 := bigSep Finset.univ fun k : Fin 8 => if k.val = t then iprop(emp) else xPart d mx (c k.val)

theorem xAll_eq {t : ℕ} (ht : t < 8) : (XAll d mx c : sProp 𝕄) = iprop(xPart d mx (c t) ∗ XRest d mx c t) :=
  pull (⟨t, ht⟩ : Fin 8) (if_pos rfl) fun k hk => (if_neg fun e => hk (Fin.ext e)).symm

theorem xRest_last : (XRest d mx c 8 : sProp 𝕄) = XAll d mx c :=
  bigSep_congr fun k _ => if_neg (Nat.ne_of_lt k.isLt)

/-- The input side before turn `t`: a copy under way, or at the end nothing. -/
def InS (t : ℕ) : sProp 𝕄 :=
  iprop((if t < 8 then InFlight d i ib mx si (c t)
    else iprop((∃ f, ib.view.loc (tile d i) ↦[ib.view.set]{fullShare} f) ∗ semVal (tile d i, .dma si.sem) 0)) ∗ XRest d mx c t)

variable [FloatOps F]

/-- All the pair's chunks of the result, those before `t` done. -/
def YAll (t : ℕ) : sProp 𝕄 :=
  bigSep Finset.univ fun k : Fin 8 => if k.val < t then yPart d (res mx) (c k.val) else yPart d my (c k.val)

/-- All but chunk `t - 1`. -/
def YRest (t : ℕ) : sProp 𝕄 :=
  bigSep Finset.univ fun k : Fin 8 => if k.val + 1 = t then iprop(emp)
    else if k.val < t then yPart d (res mx) (c k.val) else yPart d my (c k.val)

theorem yRest_first : (YRest d mx my c 0 : sProp 𝕄) = YAll d mx my c 0 :=
  bigSep_congr fun k _ => if_neg (Nat.succ_ne_zero _)

theorem yAll_done {t : ℕ} (ht : t < 8) :
    (YAll d mx my c (t + 1) : sProp 𝕄) = iprop(yPart d (res mx) (c t) ∗ YRest d mx my c (t + 1)) := by
  refine (pull (Ψ := fun k : Fin 8 => if k.val + 1 = t + 1 then iprop(emp)
    else if k.val < t + 1 then yPart d (res mx) (c k.val) else yPart d my (c k.val)) (⟨t, ht⟩ : Fin 8) (if_pos rfl)
    fun k hk => (if_neg fun e => hk (Fin.ext (Nat.succ.inj e))).symm).trans ?_
  show iprop((if t < t + 1 then yPart d (res mx) (c t) else yPart d my (c t)) ∗ _) = _
  rw [if_pos (Nat.lt_succ_self t)]; rfl

theorem yAll_todo {t : ℕ} (ht : t < 8) :
    (YAll d mx my c t : sProp 𝕄) = iprop(yPart d my (c t) ∗ YRest d mx my c (t + 1)) := by
  refine (pull (Ψ := fun k : Fin 8 => if k.val + 1 = t + 1 then iprop(emp)
    else if k.val < t + 1 then yPart d (res mx) (c k.val) else yPart d my (c k.val)) (⟨t, ht⟩ : Fin 8) (if_pos rfl) fun k hk => ?_).trans ?_
  · have hne : k.val ≠ t := fun e => hk (Fin.ext e)
    rw [if_neg fun e => hne (Nat.succ.inj e)]
    by_cases h : k.val < t
    · rw [if_pos h, if_pos (by omega)]
    · rw [if_neg h, if_neg (by omega)]
  · show iprop((if t < t then yPart d (res mx) (c t) else yPart d my (c t)) ∗ _) = _
    rw [if_neg (Nat.lt_irrefl t)]; rfl

/-- The output side before turn `t`: a copy under way, or at the start nothing. -/
def OutS (t : ℕ) : sProp 𝕄 :=
  iprop((if 0 < t then OutFlight d i ob mx so (c (t - 1)) else iprop(Free d i ob ∗ semVal (tile d i, .dma so.sem) 0))
    ∗ YRest d mx my c t)

/-- The output side while no copy is under way. -/
def OutQ (t : ℕ) : sProp 𝕄 :=
  iprop(Free d i ob ∗ semVal (tile d i, .dma so.sem) 0 ∗ YAll d mx my c t)

/-- Waiting for the copy before, if there is one, leaves the output buffer free. -/
theorem wp_settleIf (hob : ob.IsWhole) {t : ℕ} (ht : t ≤ 8) {cs : BitVec 1} (hcs : cs = 1#1 ↔ 0 < t)
    {O : CellTallies nD τ sig (HIx 1)} {W : Waits sig (HIx 1)}
    {α : Type} {k : TileProg F i α} {Q : α → sProp 𝕄} :
    iprop(MayWaits (tile d i) (none : HIx 1) O ∗ OutS d i ob mx my so c t ∗ Owe d i O W)
      ⊢ iprop(((OutQ d i ob mx my so c t ∗ Owe d i O W) -∗ wp frame (wpE (defs₀ (F := F)) 𝒱₀ (tile d i) none) Set.univ k Q)
        -∗ wp frame (wpE (defs₀ (F := F)) 𝒱₀ (tile d i) none) Set.univ
          (if _h : cs = 1#1 then (settle i yM ob hob so >>= fun _ => k) else k) Q) := by
  unfold OutS OutQ
  by_cases h : 0 < t
  · obtain ⟨s, rfl⟩ : ∃ s, t = s + 1 := ⟨t - 1, by omega⟩
    rw [dif_pos (hcs.mpr h), if_pos h, Nat.add_sub_cancel, yAll_done d mx my c (by omega)]
    iintro ⟨Hm, ⟨HF, HR⟩, HO⟩ Hk
    iapply (wp_settle d i ob mx so hob) $$ [Hm HF HO]
    · isplitl [Hm]; · iexact Hm
      isplitl [HF]; · iexact HF
      iexact HO
    iintro ⟨Hy, Hf, Hs, HO⟩
    iapply Hk
    isplitr [HO]
    · isplitl [Hf]; · iexact Hf
      isplitl [Hs]; · iexact Hs
      isplitl [Hy]; · iexact Hy
      iexact HR
    iexact HO
  · obtain rfl : t = 0 := by omega
    rw [dif_neg fun e => h (hcs.mp e), if_neg h, yRest_first]
    iintro ⟨-, ⟨⟨Hf, Hs⟩, HR⟩, HO⟩ Hk
    iapply Hk
    isplitr [HO]
    · isplitl [Hf]; · iexact Hf
      isplitl [Hs]; · iexact Hs
      iexact HR
    iexact HO

/-- Starting the copy after, if there is one. -/
theorem wp_fetchIf {t : ℕ} (ht : t < 8) (hc : ∀ t < 8, c t < 768) {cf : BitVec 1} (hcf : cf = 1#1 ↔ t < 7) {o : Fin 2 → ℕ}
    (ho : cf = 1#1 → ∀ a, o a + S1x32768.size a ≤ S8x3145728.size a) (hn : cf = 1#1 → o = xoff (c (t + 1)))
    {α : Type} {k : TileProg F i α} {Q : α → sProp 𝕄} :
    iprop((∃ f, ib.view.loc (tile d i) ↦[ib.view.set]{fullShare} f) ∗ semVal (tile d i, .dma si.sem) 0 ∗ XAll d mx c)
      ⊢ iprop((InS d i ib mx si c (t + 1) -∗ wp frame (wpE (defs₀ (F := F)) 𝒱₀ (tile d i) none) Set.univ k Q)
        -∗ wp frame (wpE (defs₀ (F := F)) 𝒱₀ (tile d i) none) Set.univ
          (if h : cf = 1#1 then (fetch i xM ib si o (ho h) >>= fun _ => k) else k) Q) := by
  unfold InS
  by_cases h : t < 7
  · have h1 := hcf.mpr h
    rw [dif_pos h1, if_pos (by omega), xAll_eq d mx c (show t + 1 < 8 by omega)]
    iintro ⟨Hf, Hs, Hx, HR⟩ Hk
    iapply (wp_fetch d i ib mx si (hc (t + 1) (by omega)) (hn h1) (ho h1)) $$ [Hx Hf Hs]
    · isplitl [Hx]; · iexact Hx
      isplitl [Hf]; · iexact Hf
      iexact Hs
    iintro HF
    iapply Hk
    isplitl [HF]; · iexact HF
    iexact HR
  · obtain rfl : t = 7 := by omega
    rw [dif_neg fun e => h (hcf.mp e), if_neg (by omega), xRest_last]
    iintro ⟨Hf, Hs, HX⟩ Hk
    iapply Hk
    isplitr [HX]
    · isplitl [Hf]; · iexact Hf
      iexact Hs
    iexact HX

/-- An output buffer filled from an input buffer holding chunk `n` holds chunk `n` of the result. -/
theorem done_ready {n : ℕ} (f : Buf (Elt F) (ib.view.loc (tile d i))) (h : Buf (Elt F) (ob.view.loc (tile d i)))
    (hf : ∀ w < 32768, word d i ib f w = xword mx (32768 * n + w)) (hd : Done d i ib ob f h 8192) :
    ∀ w < 8192, ob.view.read (Elt F) h (oat w) = best (xword mx) (8192 * n + w) := by
  intro w hw
  rw [hd w hw]
  unfold best
  rw [hf _ (by omega), hf _ (by omega), hf _ (by omega), hf _ (by omega),
    show 4 * (8192 * n + w) = 32768 * n + 4 * w by omega]
  rfl

/-- One turn. -/
theorem wp_turn (hob : ob.IsWhole)
    (hw1 : k0_chk1 k0_pay25) (hw2 : k0_chk2 k0_pay26) (hw3 : k0_chk3 k0_pay27) (hw4 : k0_chk4 k0_pay28)
    {t : ℕ} (ht : t < 8) (hc : ∀ t < 8, c t < 768) {cs cf : BitVec 1} (hcs : cs = 1#1 ↔ 0 < t) (hcf : cf = 1#1 ↔ t < 7)
    {ox : Fin 2 → ℕ} (hox : cf = 1#1 → ∀ a, ox a + S1x32768.size a ≤ S8x3145728.size a) (hx : cf = 1#1 → ox = xoff (c (t + 1)))
    {oy : Fin 2 → ℕ} (hoy : ∀ a, oy a + S1x8192.size a ≤ S8x786432.size a) (hy : oy = yoff (c t))
    {O : CellTallies nD τ sig (HIx 1)} {W : Waits sig (HIx 1)} {β : Type} {r : β}
    {Q : β → sProp 𝕄} :
    iprop(MayWaits (tile d i) (none : HIx 1) O ∗ (InS d i ib mx si c t ∗ OutS d i ob mx my so c t) ∗ Owe d i O W)
      ⊢ iprop((((InS d i ib mx si c (t + 1) ∗ OutS d i ob mx my so c (t + 1)) ∗ Owe d i O W) -∗ Q r)
        -∗ wp frame (wpE (defs₀ (F := F)) 𝒱₀ (tile d i) none) Set.univ
          (turn i xM yM ib ob hob si so hw1 hw2 hw3 hw4 cs cf ox hox oy hoy r) Q) := by
  unfold turn
  rw [InS, if_pos ht]
  iintro ⟨#Hm, ⟨⟨HF, HX⟩, Ho⟩, HO⟩ Hk
  iapply (wp_await d i ib mx si) $$ [HF HO]
  · isplitr; · iexact Hm
    isplitl [HF]; · iexact HF
    iexact HO
  iintro ⟨Hl, Hx, Hs, HO⟩
  iapply (wp_settleIf d i ob mx my so c hob (show t ≤ 8 by omega) hcs) $$ [Ho HO]
  · isplitr; · iexact Hm
    isplitl [Ho]; · iexact Ho
    iexact HO
  unfold OutQ Free Loaded
  iintro ⟨⟨⟨%h, Hh⟩, Hso, HY⟩, HO⟩
  icases Hl with ⟨%f, %hf, Hf⟩
  iapply (wp_deal d i ib hw1 hw2 hw3 hw4 (n := 0) rfl inb_S32832_S64_0) $$ [Hf]; · iexact Hf
  iintro Hf
  iapply (wp_inner d i ib ob hw1 hw2 hw3 hw4) $$ [Hf Hh]
  · isplitl [Hf]; · iexact Hf
    iexact Hh
  iintro %acc ⟨Hf, %h', %hd, Hh⟩
  iapply (wp_fetchIf d i ib mx si c ht hc hcf hox hx) $$ [Hf Hs Hx HX]
  · isplitl [Hf]; · iexists f; iexact Hf
    isplitl [Hs]; · iexact Hs
    rw [xAll_eq d mx c ht]
    isplitl [Hx]; · iexact Hx
    iexact HX
  iintro HI
  ihave HY := (Entails.of_eq (yAll_todo d mx my c ht)) $$ HY
  icases HY with ⟨Hy, HY⟩
  iapply (wp_emit d i ob mx so hob my (hc t ht) hy hoy) $$ [Hy Hh Hso]
  · isplitl [Hy]; · iexact Hy
    isplitl [Hh]
    · unfold Ready
      iexists h'
      isplitr; · ipureintro; exact done_ready d i ib ob mx f h' hf hd
      iexact Hh
    iexact Hso
  iintro HF
  sl_step
  iapply Hk
  isplitr [HO]
  · isplitl [HI]; · iexact HI
    unfold OutS
    rw [if_pos (Nat.succ_pos t), Nat.add_sub_cancel]
    isplitl [HF]; · iexact HF
    iexact HY
  iexact HO

end

end Cert.Proof.Pool
-- ==== Proof.Work.lean ====
/-
  What one tile does: three pairs of buffers take turns, eight times each.
-/
module

public import proofs.«01_k».proof.Proof.Turn

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

/-- Chunk `t` of pair `b`, on the tile at core `p`, place `s`. -/
def chunk (p s b t : ℕ) : ℕ := 24 * (2 * s + p) + (3 * t + b)

/-- The same on the tile of a grid point. -/
abbrev mine (i : grid0.Coords) (b : ℕ) : ℕ → ℕ := chunk (i 0).val (i 1).val b

theorem mine_lt (i : grid0.Coords) {b : ℕ} (hb : b < 3) : ∀ t < 8, mine i b t < 768 := by
  intro t ht
  have h0 : (i 0).val < 2 := (i 0).isLt
  have h1 : (i 1).val < 16 := (i 1).isLt
  show 24 * (2 * (i 1).val + (i 0).val) + (3 * t + b) < 768
  omega

/-! ## The kernel's offsets and conditions -/

theorem off1_at : ∀ (i : grid0.Coords) (r : Fin 3), k0_off1 i (BitVec.ofNat 32 (32768 * r.val)) = xoff (mine i r.val 0) := by
  decide +kernel

theorem off4_at : ∀ (i : grid0.Coords) (t : Fin k0_t1_loop.trips), k0_cond2 t = 1#1 → k0_off4 i t = xoff (mine i 0 (t.val + 1)) := by
  decide +kernel

theorem off8_at : ∀ (i : grid0.Coords) (t : Fin k0_t1_loop.trips), k0_cond4 t = 1#1 → k0_off8 i t = xoff (mine i 1 (t.val + 1)) := by
  decide +kernel

theorem off11_at : ∀ (i : grid0.Coords) (t : Fin k0_t1_loop.trips), k0_cond6 t = 1#1 → k0_off11 i t = xoff (mine i 2 (t.val + 1)) := by
  decide +kernel

theorem off5_at : ∀ (i : grid0.Coords) (t : Fin k0_t1_loop.trips) (r : Fin 3),
    k0_off5 i t (BitVec.ofNat 32 r.val) = yoff (mine i r.val t.val) := by
  decide +kernel

theorem conds : ∀ t : Fin k0_t1_loop.trips, t.val < 8 ∧ (later (Scf.iv 0#32 1#32 t.val) = 1#1 ↔ 0 < t.val)
    ∧ (k0_cond2 t = 1#1 ↔ t.val < 7) ∧ (k0_cond4 t = 1#1 ↔ t.val < 7) ∧ (k0_cond6 t = 1#1 ↔ t.val < 7) := by
  decide +kernel

section
variable (d : Dev nD) (i : grid0.Coords) (mx : Buf (Elt F) (xLoc d)) (my : Buf (Elt F) (yLoc d))

section
variable (ib : Memref sig .scVector .vmem S32832 .f32) (ob : Memref sig .scVector .vmem S8192 .f32)
  (si so : DmaSems sig S_) (c : ℕ → ℕ)

/-- The input side at rest. -/
def InQ : sProp 𝕄 :=
  iprop((∃ f, ib.view.loc (tile d i) ↦[ib.view.set]{fullShare} f) ∗ semVal (tile d i, .dma si.sem) 0 ∗ XAll d mx c)

theorem inS_last : (InS d i ib mx si c 8 : sProp 𝕄) ⊢ InQ d i mx ib si c := by
  unfold InS InQ
  rw [if_neg (by omega), xRest_last]
  iintro ⟨⟨Hf, Hs⟩, HX⟩
  isplitl [Hf]; · iexact Hf
  isplitl [Hs]; · iexact Hs
  iexact HX

variable [FloatOps F]

theorem outS_first : (OutQ d i ob mx my so c 0 : sProp 𝕄) ⊢ OutS d i ob mx my so c 0 := by
  unfold OutS OutQ
  rw [if_neg (Nat.lt_irrefl 0), yRest_first]
  iintro ⟨Hf, Hs, HY⟩
  isplitr [HY]
  · isplitl [Hf]; · iexact Hf
    iexact Hs
  iexact HY

theorem wp_first (hc : ∀ t < 8, c t < 768) {o : Fin 2 → ℕ} (hn : o = xoff (c 0))
    (ho : ∀ a, o a + S1x32768.size a ≤ S8x3145728.size a)
    {α : Type} {k : PUnit → TileProg F i α} {Q : α → sProp 𝕄} :
    (InQ d i mx ib si c : sProp 𝕄)
      ⊢ iprop((InS d i ib mx si c 0 -∗ wp frame (wpE (defs₀ (F := F)) 𝒱₀ (tile d i) none) Set.univ (k ⟨⟩) Q)
        -∗ wp frame (wpE (defs₀ (F := F)) 𝒱₀ (tile d i) none) Set.univ (fetch i xM ib si o ho >>= k) Q) := by
  unfold InS InQ
  rw [if_pos (by omega), xAll_eq d mx c (show 0 < 8 by omega)]
  iintro ⟨Hf, Hs, Hx, HR⟩ Hk
  iapply (wp_fetch d i ib mx si (hc 0 (by omega)) hn ho) $$ [Hx Hf Hs]
  · isplitl [Hx]; · iexact Hx
    isplitl [Hf]; · iexact Hf
    iexact Hs
  iintro HF
  iapply Hk
  isplitl [HF]; · iexact HF
  iexact HR

theorem wp_last (hob : ob.IsWhole) {O : CellTallies nD τ sig (HIx 1)} {W : Waits sig (HIx 1)}
    {α : Type} {k : PUnit → TileProg F i α} {Q : α → sProp 𝕄} :
    iprop(MayWaits (tile d i) (none : HIx 1) O ∗ OutS d i ob mx my so c 8 ∗ Owe d i O W)
      ⊢ iprop(((OutQ d i ob mx my so c 8 ∗ Owe d i O W) -∗ wp frame (wpE (defs₀ (F := F)) 𝒱₀ (tile d i) none) Set.univ (k ⟨⟩) Q)
        -∗ wp frame (wpE (defs₀ (F := F)) 𝒱₀ (tile d i) none) Set.univ (settle i yM ob hob so >>= k) Q) := by
  have h := wp_settleIf d i ob mx my so c hob (Nat.le_refl 8) (cs := 1#1) (iff_of_true rfl (by omega)) (O := O) (W := W) (k := k ⟨⟩) (Q := Q)
  rw [dif_pos rfl] at h
  exact h

end

variable [FloatOps F]
variable (arg4 arg5 arg6 : Memref sig .scVector .vmem S32832 .f32)
    (arg7 : Memref sig .scVector .vmem S8192 .f32) (harg7 : arg7.IsWhole)
    (arg8 : Memref sig .scVector .vmem S8192 .f32) (harg8 : arg8.IsWhole)
    (arg9 : Memref sig .scVector .vmem S8192 .f32) (harg9 : arg9.IsWhole)
    (arg10 arg11 arg12 arg13 arg14 arg15 : DmaSems sig S_)

/-- What holds before trip `t` of the outer loop. -/
def Outer (O : CellTallies nD τ sig (HIx 1)) (W : Waits sig (HIx 1)) (t : ℕ) : sProp 𝕄 :=
  iprop((InS d i arg4 mx arg10 (mine i 0) t ∗ OutS d i arg7 mx my arg13 (mine i 0) t)
    ∗ (InS d i arg5 mx arg11 (mine i 1) t ∗ OutS d i arg8 mx my arg14 (mine i 1) t)
    ∗ (InS d i arg6 mx arg12 (mine i 2) t ∗ OutS d i arg9 mx my arg15 (mine i 2) t)
    ∗ MayWaits (tile d i) (none : HIx 1) O ∗ Owe d i O W)

theorem wp_turns (hw1 : k0_chk1 k0_pay25) (hw2 : k0_chk2 k0_pay26) (hw3 : k0_chk3 k0_pay27) (hw4 : k0_chk4 k0_pay28)
    {O : CellTallies nD τ sig (HIx 1)} {W : Waits sig (HIx 1)} (t : Fin k0_t1_loop.trips) :
    (Outer d i mx my arg4 arg5 arg6 arg7 arg8 arg9 arg10 arg11 arg12 arg13 arg14 arg15 O W t.val : sProp 𝕄)
      ⊢ wp frame (wpE (defs₀ (F := F)) 𝒱₀ (tile d i) none) Set.univ
        (turns i xM yM arg4 arg5 arg6 arg7 harg7 arg8 harg8 arg9 harg9 arg10 arg11 arg12 arg13 arg14 arg15 hw1 hw2 hw3 hw4 t)
        (fun _ => Outer d i mx my arg4 arg5 arg6 arg7 arg8 arg9 arg10 arg11 arg12 arg13 arg14 arg15 O W (t.val + 1)) := by
  obtain ⟨ht, hl, h2, h4, h6⟩ := conds t
  unfold Outer turns
  rw [wp_bind]
  iintro ⟨HA, HB, HC, #Hm, HO⟩
  iapply (wp_turn d i arg4 arg7 mx my arg10 arg13 (mine i 0) harg7 hw1 hw2 hw3 hw4 ht (mine_lt i (by omega)) hl h2
    (k0_off4_inb i t) (off4_at i t) (k0_off5_inb i t 0) (off5_at i t 0)) $$ [HA HO]
  · isplitr; · iexact Hm
    isplitl [HA]; · iexact HA
    iexact HO
  iintro ⟨HA, HO⟩
  rw [wp_bind]
  iapply (wp_turn d i arg5 arg8 mx my arg11 arg14 (mine i 1) harg8 hw1 hw2 hw3 hw4 ht (mine_lt i (by omega)) hl h4
    (k0_off8_inb i t) (off8_at i t) (k0_off5_inb i t 1) (off5_at i t 1)) $$ [HB HO]
  · isplitr; · iexact Hm
    isplitl [HB]; · iexact HB
    iexact HO
  iintro ⟨HB, HO⟩
  iapply (wp_turn d i arg6 arg9 mx my arg12 arg15 (mine i 2) harg9 hw1 hw2 hw3 hw4 ht (mine_lt i (by omega)) hl h6
    (k0_off11_inb i t) (off11_at i t) (k0_off5_inb i t 2) (off5_at i t 2)) $$ [HC HO]
  · isplitr; · iexact Hm
    isplitl [HC]; · iexact HC
    iexact HO
  iintro ⟨HC, HO⟩
  isplitl [HA]; · iexact HA
  isplitl [HB]; · iexact HB
  isplitl [HC]; · iexact HC
  isplitr; · iexact Hm
  iexact HO

/-- The three pairs at rest, the chunks of the result before `t` done. -/
def Rest (t : ℕ) : sProp 𝕄 :=
  iprop((InQ d i mx arg4 arg10 (mine i 0) ∗ OutQ d i arg7 mx my arg13 (mine i 0) t)
    ∗ (InQ d i mx arg5 arg11 (mine i 1) ∗ OutQ d i arg8 mx my arg14 (mine i 1) t)
    ∗ (InQ d i mx arg6 arg12 (mine i 2) ∗ OutQ d i arg9 mx my arg15 (mine i 2) t))

theorem wp_work (hw1 : k0_chk1 k0_pay25) (hw2 : k0_chk2 k0_pay26) (hw3 : k0_chk3 k0_pay27) (hw4 : k0_chk4 k0_pay28)
    {O : CellTallies nD τ sig (HIx 1)} {W : Waits sig (HIx 1)} :
    iprop(MayWaits (tile d i) (none : HIx 1) O ∗ Owe d i O W
        ∗ Rest d i mx my arg4 arg5 arg6 arg7 arg8 arg9 arg10 arg11 arg12 arg13 arg14 arg15 0 : sProp 𝕄)
      ⊢ wp frame (wpE (defs₀ (F := F)) 𝒱₀ (tile d i) none) Set.univ
        (work i xM yM arg4 arg5 arg6 arg7 harg7 arg8 harg8 arg9 harg9 arg10 arg11 arg12 arg13 arg14 arg15 hw1 hw2 hw3 hw4)
        (fun _ => iprop(Rest d i mx my arg4 arg5 arg6 arg7 arg8 arg9 arg10 arg11 arg12 arg13 arg14 arg15 8 ∗ Owe d i O W)) := by
  unfold Rest work
  iintro ⟨#Hm, HO, ⟨HA, HA'⟩, ⟨HB, HB'⟩, ⟨HC, HC'⟩⟩
  iapply (wp_first d i mx arg4 arg10 (mine i 0) (mine_lt i (by omega)) (off1_at i 0) (k0_off1_inb i 0)) $$ [HA]; · iexact HA
  iintro HA
  iapply (wp_first d i mx arg5 arg11 (mine i 1) (mine_lt i (by omega)) (off1_at i 1) (k0_off1_inb i 1)) $$ [HB]; · iexact HB
  iintro HB
  iapply (wp_first d i mx arg6 arg12 (mine i 2) (mine_lt i (by omega)) (off1_at i 2) (k0_off1_inb i 2)) $$ [HC]; · iexact HC
  iintro HC
  ihave HA' := (outS_first d i mx my arg7 arg13 (mine i 0)) $$ HA'
  ihave HB' := (outS_first d i mx my arg8 arg14 (mine i 1)) $$ HB'
  ihave HC' := (outS_first d i mx my arg9 arg15 (mine i 2)) $$ HC'
  iapply (Scf.wp_for_bind frame (wpE (defs₀ (F := F)) 𝒱₀ (tile d i) none) Set.univ k0_t1_loop.lb k0_t1_loop.ub k0_t1_loop.st
    k0_t1_ok _ _ (fun t _ => Outer d i mx my arg4 arg5 arg6 arg7 arg8 arg9 arg10 arg11 arg12 arg13 arg14 arg15 O W t)
    (fun t _ => wp_turns d i mx my arg4 arg5 arg6 arg7 harg7 arg8 harg8 arg9 harg9 arg10 arg11 arg12 arg13 arg14 arg15
      hw1 hw2 hw3 hw4 t)) $$ [HA HA' HB HB' HC HC' HO]
  · unfold Outer
    isplitl [HA HA']
    · isplitl [HA]; · iexact HA
      iexact HA'
    isplitl [HB HB']
    · isplitl [HB]; · iexact HB
      iexact HB'
    isplitl [HC HC']
    · isplitl [HC]; · iexact HC
      iexact HC'
    isplitr; · iexact Hm
    iexact HO
  iintro %_ HI
  rw [show Scf.trips k0_t1_loop.lb k0_t1_loop.ub k0_t1_loop.st = 8 by decide +kernel]
  unfold Outer
  icases HI with ⟨⟨HA, HA'⟩, ⟨HB, HB'⟩, ⟨HC, HC'⟩, -, HO⟩
  iapply (wp_last d i mx my arg7 arg13 (mine i 0) harg7) $$ [HA' HO]
  · isplitr; · iexact Hm
    isplitl [HA']; · iexact HA'
    iexact HO
  iintro ⟨HA', HO⟩
  iapply (wp_last d i mx my arg8 arg14 (mine i 1) harg8) $$ [HB' HO]
  · isplitr; · iexact Hm
    isplitl [HB']; · iexact HB'
    iexact HO
  iintro ⟨HB', HO⟩
  iapply (wp_last d i mx my arg9 arg15 (mine i 2) harg9) $$ [HC' HO]
  · isplitr; · iexact Hm
    isplitl [HC']; · iexact HC'
    iexact HO
  iintro ⟨HC', HO⟩
  sl_step
  isplitr [HO]
  · isplitl [HA HA']
    · isplitl [HA]; · iapply (inS_last d i mx arg4 arg10 (mine i 0)); iexact HA
      iexact HA'
    isplitl [HB HB']
    · isplitl [HB]; · iapply (inS_last d i mx arg5 arg11 (mine i 1)); iexact HB
      iexact HB'
    isplitl [HC]; · iapply (inS_last d i mx arg6 arg12 (mine i 2)); iexact HC
    iexact HC'
  iexact HO

end

end Cert.Proof.Pool
-- ==== Proof.Launch.lean ====
/-
  The launch: how the arrays are shared out to the tiles, and what the whole program leaves.
-/
module

public import proofs.«01_k».proof.Proof.Work
public import Idealize.ShloMosaic.Lib.SparseCore.Quiescent

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the launch handshakes sit in the ghost state. -/
abbrev EH : Emb UH 𝕄 := embL

/-! ## A tile's own buffers and semaphores -/

section Own

theorem bigSep_six (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide),
    SparseCore.bigSep_insert' (by decide), SparseCore.bigSep_insert' (by decide), SparseCore.bigSep_insert' (by decide),
    SparseCore.bigSep_insert' (by decide), bigSep_singleton]

/-- Six members of a family, and the rest of it. -/
theorem bigSep_take {β : Type} [DecidableEq β] {s : Finset β} {a : Fin 6 → β} (hm : ∀ j, a j ∈ s) (ha : Function.Injective a)
    (Φ : β → sProp 𝕄) :
    bigSep s Φ = iprop((Φ (a 0) ∗ Φ (a 1) ∗ Φ (a 2) ∗ Φ (a 3) ∗ Φ (a 4) ∗ Φ (a 5)) ∗ bigSep (s \ Finset.univ.image a) Φ) := by
  have hsub : Finset.univ.image a ⊆ s := fun b hb => by
    obtain ⟨j, -, rfl⟩ := Finset.mem_image.mp hb
    exact hm j
  conv_lhs => rw [← Finset.union_sdiff_of_subset hsub]
  rw [SparseCore.bigSep_union' Finset.disjoint_sdiff, SparseCore.bigSep_image_of_injOn ha.injOn Φ, bigSep_six]

/-- The six buffers and the six semaphores. -/
def bufAt (j : Fin 6) : Ref sig .scVector := ⟨.vmem, j, rfl⟩
def semAt : Fin 6 → DmaSem sig :=
  ![cc0_scratch6.sem, cc0_scratch7.sem, cc0_scratch8.sem, cc0_scratch9.sem, cc0_scratch10.sem, cc0_scratch11.sem]

theorem semAt_inj : Function.Injective semAt := by decide
theorem semAt_scoped : ∀ j, (SemLoc.dma (semAt j) : SemLoc sig).isScoped .scVector = true := by decide
theorem bufAt_inj : Function.Injective bufAt := by decide

variable (d : Dev nD) (c : Fin τ.nSC) (s : Fin τ.nSub)

abbrev semCell (j : Fin 6) : GSem nD τ sig := (V d c s, .dma (semAt j))

theorem ownSems0_V :
    (ownSems0 (V d c s) : sProp 𝕄)
      = iprop((semVal (semCell d c s 0) 0 ∗ semVal (semCell d c s 1) 0 ∗ semVal (semCell d c s 2) 0
          ∗ semVal (semCell d c s 3) 0 ∗ semVal (semCell d c s 4) 0 ∗ semVal (semCell d c s 5) 0)
        ∗ bigSep (ownCells (V d c s) \ Finset.univ.image (semCell d c s)) fun g => semVal g 0) :=
  bigSep_take (a := semCell d c s) (fun j => mem_ownCells.mpr ⟨rfl, semAt_scoped j⟩)
    (fun _ _ e => semAt_inj (SemLoc.dma.inj (Prod.mk.inj e).2)) (fun g => semVal g 0)

/-- A buffer of the tile, whatever it holds. -/
abbrev held (j : Fin 6) : sProp 𝕄 := iprop(∃ f, (V d c s).loc (bufAt j) ↦{fullShare} f)

abbrev bufRef (j : Fin 6) : DevRef τ sig := (Proc.scVector c s).devRef (bufAt j)

theorem ownBufs_V :
    (ownBufs (V d c s) : sProp 𝕄)
      = iprop((held d c s 0 ∗ held d c s 1 ∗ held d c s 2 ∗ held d c s 3 ∗ held d c s 4 ∗ held d c s 5)
        ∗ bigSep (ownRefs (τ := τ) (.scVector c s) \ Finset.univ.image (bufRef c s))
            fun b => iprop(∃ f, ((d, b) : Loc nD τ sig) ↦{fullShare} f)) :=
  bigSep_take (a := bufRef c s)
    (fun j => SparseCore.Cfg.mem_ownRefs_of_owner (p := Proc.scVector c s) (b := (Proc.scVector c s).devRef (bufAt j)) rfl)
    (fun _ _ e => bufAt_inj (Proc.devRef_injective _ e)) (fun b => iprop(∃ f, ((d, b) : Loc nD τ sig) ↦{fullShare} f))

end Own

/-! ## What a tile is handed -/

section
variable [FloatOps F] (d : Dev nD) (mx : Buf (Elt F) (xLoc d)) (my : Buf (Elt F) (yLoc d))

/-- One pair's chunks on the tile at core `p`, place `s`: those of the result before `t` done. -/
def Pair (p s t : ℕ) (b : ℕ) : sProp 𝕄 := iprop(XAll d mx (chunk p s b) ∗ YAll d mx my (chunk p s b) t)

/-- All of a tile's chunks. -/
def Task (p s t : ℕ) : sProp 𝕄 := bigSep Finset.univ fun b : Fin 3 => Pair d mx my p s t b.val

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide),
    SparseCore.bigSep_insert' (by decide), bigSep_singleton]

/-- A pair's buffers and semaphores, with its chunks, are a pair at rest. -/
theorem rest_eq (i : grid0.Coords) (t : ℕ) :
    (Rest d i mx my (Memref.whole cc0_scratch0) (Memref.whole cc0_scratch1) (Memref.whole cc0_scratch2)
      (Memref.whole cc0_scratch3) (Memref.whole cc0_scratch4) (Memref.whole cc0_scratch5)
      cc0_scratch6 cc0_scratch7 cc0_scratch8 cc0_scratch9 cc0_scratch10 cc0_scratch11 t : sProp 𝕄)
      = iprop(((held d ((i 0).castLE hcore0) ((i 1).castLE hsub0) 0 ∗ semVal (semCell d ((i 0).castLE hcore0) ((i 1).castLE hsub0) 0) 0 ∗ XAll d mx (mine i 0))
          ∗ held d ((i 0).castLE hcore0) ((i 1).castLE hsub0) 3 ∗ semVal (semCell d ((i 0).castLE hcore0) ((i 1).castLE hsub0) 3) 0 ∗ YAll d mx my (mine i 0) t)
        ∗ ((held d ((i 0).castLE hcore0) ((i 1).castLE hsub0) 1 ∗ semVal (semCell d ((i 0).castLE hcore0) ((i 1).castLE hsub0) 1) 0 ∗ XAll d mx (mine i 1))
          ∗ held d ((i 0).castLE hcore0) ((i 1).castLE hsub0) 4 ∗ semVal (semCell d ((i 0).castLE hcore0) ((i 1).castLE hsub0) 4) 0 ∗ YAll d mx my (mine i 1) t)
        ∗ ((held d ((i 0).castLE hcore0) ((i 1).castLE hsub0) 2 ∗ semVal (semCell d ((i 0).castLE hcore0) ((i 1).castLE hsub0) 2) 0 ∗ XAll d mx (mine i 2))
          ∗ held d ((i 0).castLE hcore0) ((i 1).castLE hsub0) 5 ∗ semVal (semCell d ((i 0).castLE hcore0) ((i 1).castLE hsub0) 5) 0 ∗ YAll d mx my (mine i 2) t)) := by
  unfold Rest InQ OutQ Free
  simp only [Memref.view_whole, View.set_whole]
  rfl

omit [FloatOps F] in
theorem below {v : IVec S16 32} (h : ∀ x, (v x).toNat < 64) :
    ∀ a x, ((![v] : Fin 1 → IVec S16 32) a x).toNat < S64.size a := by
  intro a x
  obtain rfl : a = 0 := Subsingleton.elim _ _
  exact h x

omit [FloatOps F] in
theorem pay_below (x : S16.Idx) : (k0_pay25 x).toNat < 64 ∧ (k0_pay26 x).toNat < 64 ∧ (k0_pay27 x).toNat < 64 ∧ (k0_pay28 x).toNat < 64 := by
  have h := pay_val x
  have hx : (x 0).val < 16 := (x 0).isLt
  omega

omit [FloatOps F] in
theorem chk1 : k0_chk1 k0_pay25 := by
  have h := below fun x => (pay_below x).1
  unfold k0_chk1
  repeat' first | exact h | apply And.intro
omit [FloatOps F] in
theorem chk2 : k0_chk2 k0_pay26 := by
  have h := below fun x => (pay_below x).2.1
  unfold k0_chk2
  repeat' first | exact h | apply And.intro
omit [FloatOps F] in
theorem chk3 : k0_chk3 k0_pay27 := by
  have h := below fun x => (pay_below x).2.2.1
  unfold k0_chk3
  repeat' first | exact h | apply And.intro
omit [FloatOps F] in
theorem chk4 : k0_chk4 k0_pay28 := by
  have h := below fun x => (pay_below x).2.2.2
  unfold k0_chk4
  repeat' first | exact h | apply And.intro

/-- What one tile does with its share. -/
theorem tile_body (i : grid0.Coords) (hF : (K (F := F)).Facts) (O : CellTallies nD τ sig (HIx 1)) (W : Waits sig (HIx 1)) (hO : ∀ g, O g none = 0) :
    iprop(levAts (K (F := F)).L (K (F := F)).lev ∗ emp ∗ Task d mx my (i 0).val (i 1).val 0
        ∗ scopedBufs (tile d i) ∗ scopedSems0 (tile d i) ∗ owes (tile d i) O W)
      ⊢ wp frame (wpE (defs₀ (F := F)) 𝒱₀ (tile d i) none) Set.univ
          (cc0__sc_body i (Memref.whole main_arg0_scv) (Memref.isWhole_whole _) (Memref.whole main_v0_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11)
          fun _ => iprop(Task d mx my (i 0).val (i 1).val 8 ∗ scopedBufs (tile d i) ∗ scopedSems0 (tile d i)
            ∗ ∃ W', ⌜∀ p ∈ W', p ∈ W ∨ p.2 = none⌝ ∗ owes (tile d i) O W') := by
  rw [body_eq]
  simp only [Prog.lift, Prog.bind_op, Prog.bind_ret]
  rw [wp_assume_of _ _ _ _ chk1, wp_assume_of _ _ _ _ chk2, wp_assume_of _ _ _ _ chk3, wp_assume_of _ _ _ _ chk4,
    (K (F := F)).scopedBufs_V hF d ((i 0).castLE hcore0) ((i 1).castLE hsub0),
    SparseCore.Cfg.scopedSems0_V (Val := Elt F) d ((i 0).castLE hcore0) ((i 1).castLE hsub0), ownSems0_V, ownBufs_V]
  unfold Task Pair
  rw [bigSep_three, bigSep_three]
  iintro ⟨#Hlv, -, ⟨⟨HX0, HY0⟩, ⟨HX1, HY1⟩, ⟨HX2, HY2⟩⟩, ⟨⟨Hb0, Hb1, Hb2, Hb3, Hb4, Hb5⟩, Hbs⟩, ⟨⟨Hs0, Hs1, Hs2, Hs3, Hs4, Hs5⟩, Hss⟩, HO⟩
  ihave #Hm := ((K (F := F)).mayWaits_none (thr := tile d i) hO) $$ Hlv
  iapply (wp_wand frame _ Set.univ) $$ [HX0 HY0 HX1 HY1 HX2 HY2 Hb0 Hb1 Hb2 Hb3 Hb4 Hb5 Hs0 Hs1 Hs2 Hs3 Hs4 Hs5 HO]
  · iapply (wp_work d i mx my (Memref.whole cc0_scratch0) (Memref.whole cc0_scratch1) (Memref.whole cc0_scratch2)
      (Memref.whole cc0_scratch3) (Memref.isWhole_whole _) (Memref.whole cc0_scratch4) (Memref.isWhole_whole _)
      (Memref.whole cc0_scratch5) (Memref.isWhole_whole _)
      cc0_scratch6 cc0_scratch7 cc0_scratch8 cc0_scratch9 cc0_scratch10 cc0_scratch11 chk1 chk2 chk3 chk4 (O := O) (W := W))
    rw [rest_eq]
    isplitr; · iexact Hm
    isplitl [HO]
    · unfold Owe
      iexists W
      isplitr; · ipureintro; exact fun p hp => .inl hp
      iexact HO
    isplitl [HX0 HY0 Hb0 Hb3 Hs0 Hs3]
    · isplitl [HX0 Hb0 Hs0]
      · isplitl [Hb0]; · iexact Hb0
        isplitl [Hs0]; · iexact Hs0
        iexact HX0
      isplitl [Hb3]; · iexact Hb3
      isplitl [Hs3]; · iexact Hs3
      iexact HY0
    isplitl [HX1 HY1 Hb1 Hb4 Hs1 Hs4]
    · isplitl [HX1 Hb1 Hs1]
      · isplitl [Hb1]; · iexact Hb1
        isplitl [Hs1]; · iexact Hs1
        iexact HX1
      isplitl [Hb4]; · iexact Hb4
      isplitl [Hs4]; · iexact Hs4
      iexact HY1
    isplitl [HX2 Hb2 Hs2]
    · isplitl [Hb2]; · iexact Hb2
      isplitl [Hs2]; · iexact Hs2
      iexact HX2
    isplitl [Hb5]; · iexact Hb5
    isplitl [Hs5]; · iexact Hs5
    iexact HY2
  iintro %_ H
  rw [rest_eq]
  unfold Owe
  icases H with ⟨⟨⟨⟨Hb0, Hs0, HX0⟩, Hb3, Hs3, HY0⟩, ⟨⟨Hb1, Hs1, HX1⟩, Hb4, Hs4, HY1⟩, ⟨Hb2, Hs2, HX2⟩, Hb5, Hs5, HY2⟩, HO⟩
  isplitl [HX0 HY0 HX1 HY1 HX2 HY2]
  · isplitl [HX0 HY0]
    · isplitl [HX0]; · iexact HX0
      iexact HY0
    isplitl [HX1 HY1]
    · isplitl [HX1]; · iexact HX1
      iexact HY1
    isplitl [HX2]; · iexact HX2
    iexact HY2
  isplitl [Hb0 Hb1 Hb2 Hb3 Hb4 Hb5 Hbs]
  · isplitr [Hbs]
    · isplitl [Hb0]; · iexact Hb0
      isplitl [Hb1]; · iexact Hb1
      isplitl [Hb2]; · iexact Hb2
      isplitl [Hb3]; · iexact Hb3
      isplitl [Hb4]; · iexact Hb4
      iexact Hb5
    iexact Hbs
  isplitl [Hs0 Hs1 Hs2 Hs3 Hs4 Hs5 Hss]
  · isplitr [Hss]
    · isplitl [Hs0]; · iexact Hs0
      isplitl [Hs1]; · iexact Hs1
      isplitl [Hs2]; · iexact Hs2
      isplitl [Hs3]; · iexact Hs3
      isplitl [Hs4]; · iexact Hs4
      iexact Hs5
    iexact Hss
  iexact HO

end

end Cert.Proof.Pool
-- ==== Proof.Run.lean ====
/-
  The whole program: the arrays shared out, the tiles run, the arrays put together again.
-/
module

public import proofs.«01_k».proof.Proof.Launch

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

/-! ## Every chunk belongs to one core, place, pair and turn -/

abbrev Place : Type := Fin 2 × Fin 16 × Fin 3 × Fin 8

def number (p : Place) : ℕ := chunk p.1.val p.2.1.val p.2.2.1.val p.2.2.2.val

theorem number_inj {p q : Place} (h : number p = number q) : p = q := by
  obtain ⟨⟨a, ha⟩, ⟨b, hb⟩, ⟨c, hc⟩, ⟨e, he⟩⟩ := p
  obtain ⟨⟨a', ha'⟩, ⟨b', hb'⟩, ⟨c', hc'⟩, ⟨e', he'⟩⟩ := q
  have h' : 24 * (2 * b + a) + (3 * e + c) = 24 * (2 * b' + a') + (3 * e' + c') := h
  obtain ⟨rfl, rfl, rfl, rfl⟩ : a = a' ∧ b = b' ∧ c = c' ∧ e = e' := by omega
  rfl

theorem number_onto {n : ℕ} (hn : n < 768) : ∃ p : Place, number p = n :=
  ⟨(⟨n / 24 % 2, by omega⟩, ⟨n / 48, by omega⟩, ⟨n % 3, by omega⟩, ⟨n % 24 / 3, by omega⟩),
    show 24 * (2 * (n / 48) + n / 24 % 2) + (3 * (n % 24 / 3) + n % 3) = n by omega⟩

/-- Sets that between them hold everything cover everything. -/
theorem covered {β : Type} [Fintype β] [DecidableEq β] (A : Place → Finset β) (h : ∀ z, ∃ p, z ∈ A p) :
    (Finset.univ : Finset Place).biUnion A = Finset.univ :=
  Finset.eq_univ_of_forall fun z => by
    obtain ⟨p, hp⟩ := h z
    exact Finset.mem_biUnion.mpr ⟨p, Finset.mem_univ p, hp⟩

section
variable (d : Dev nD)

theorem x_shared (f : Buf (Elt F) (xLoc d)) :
    (xLoc d ↦{fullShare} f : sProp 𝕄) = bigSep Finset.univ fun p : Place => xPart d f (number p) := by
  have hdisj : ∀ p ∈ (Finset.univ : Finset Place), ∀ q ∈ (Finset.univ : Finset Place), p ≠ q →
      Disjoint (xset (number p)) (xset (number q)) := fun p _ q _ h =>
    Finset.disjoint_left.mpr fun z hp hq => h (number_inj ((mem_xset.mp hp).symm.trans (mem_xset.mp hq)))
  have hlt : ∀ z : S8x3145728.Idx, (z 0).val * 96 + (z 1).val / 32768 < 768 := fun z => by
    have h0 : (z 0).val < 8 := (z 0).isLt
    have h1 : (z 1).val < 3145728 := (z 1).isLt
    omega
  have hcover : (Finset.univ : Finset Place).biUnion (fun p => xset (number p)) = Finset.univ :=
    covered _ fun z => (number_onto (hlt z)).imp fun _ hp => mem_xset.mpr hp.symm
  rw [← pointsTo_biUnion Finset.univ (ℓ := xLoc d) (fun p : Place => xset (number p)) hdisj, hcover]

theorem y_shared (f : Buf (Elt F) (yLoc d)) :
    (yLoc d ↦{fullShare} f : sProp 𝕄) = bigSep Finset.univ fun p : Place => yPart d f (number p) := by
  have hdisj : ∀ p ∈ (Finset.univ : Finset Place), ∀ q ∈ (Finset.univ : Finset Place), p ≠ q →
      Disjoint (yset (number p)) (yset (number q)) := fun p _ q _ h =>
    Finset.disjoint_left.mpr fun z hp hq => h (number_inj ((mem_yset.mp hp).symm.trans (mem_yset.mp hq)))
  have hlt : ∀ z : S8x786432.Idx, (z 0).val * 96 + (z 1).val / 8192 < 768 := fun z => by
    have h0 : (z 0).val < 8 := (z 0).isLt
    have h1 : (z 1).val < 786432 := (z 1).isLt
    omega
  have hcover : (Finset.univ : Finset Place).biUnion (fun p => yset (number p)) = Finset.univ :=
    covered _ fun z => (number_onto (hlt z)).imp fun _ hp => mem_yset.mpr hp.symm
  rw [← pointsTo_biUnion Finset.univ (ℓ := yLoc d) (fun p : Place => yset (number p)) hdisj, hcover]

variable [FloatOps F] (mx : Buf (Elt F) (xLoc d)) (my : Buf (Elt F) (yLoc d))

theorem yAll_none (c : ℕ → ℕ) : (YAll d mx my c 0 : sProp 𝕄) = bigSep Finset.univ fun k : Fin 8 => yPart d my (c k.val) :=
  bigSep_congr fun k _ => if_neg (Nat.not_lt_zero _)

theorem yAll_full (c : ℕ → ℕ) : (YAll d mx my c 8 : sProp 𝕄) = bigSep Finset.univ fun k : Fin 8 => yPart d (res mx) (c k.val) :=
  bigSep_congr fun k _ => if_pos k.isLt

/-- The arrays, the result's holding `f`, are what the tiles hold, provided a pair's part of the result holds `f`. -/
theorem shares {t : ℕ} {f : Buf (Elt F) (yLoc d)}
    (hf : ∀ c, (YAll d mx my c t : sProp 𝕄) = bigSep Finset.univ fun k : Fin 8 => yPart d f (c k.val)) :
    (iprop((xLoc d ↦{fullShare} mx) ∗ (yLoc d ↦{fullShare} f)) : sProp 𝕄)
      = bigSep Finset.univ fun p : Fin 2 => bigSep Finset.univ fun s : Fin 16 => Task d mx my p.val s.val t := by
  rw [x_shared, y_shared, ← bigSep_sep']
  simp only [BI.bigSep_univ_prod]
  refine bigSep_congr fun p _ => bigSep_congr fun s _ => bigSep_congr fun b _ => ?_
  unfold Pair XAll
  rw [hf, bigSep_sep']
  rfl

end

/-! ## What the handshakes carry -/

variable (m : (ℓ : Loc nD τ sig) → Buf (Elt F) ℓ) (ρ : Dev nD → PrngReg)
variable [FloatOps F]

/-- The share of the tile at core `p`, place `s`. -/
abbrev share (d : Dev nD) (p s t : ℕ) : sProp 𝕄 := Task d (m (xLoc d)) (m (yLoc d)) p s t

/-- A core's share: its tiles'. -/
abbrev coreShare (d : Dev nD) (p t : ℕ) : sProp 𝕄 := bigSep Finset.univ fun s : Fin 16 => share m d p s.val t

instance share_storable (d : Dev nD) (p s t : ℕ) : BI.Storable (upEmb : UEmb _ 𝕄) (share m d p s t) := by
  unfold share Task Pair XAll YAll
  have : ∀ (b : ℕ) (k : Fin 8), BI.Storable (upEmb : UEmb _ 𝕄)
      (if k.val < t then yPart d (res (m (xLoc d))) (chunk p s b k.val) else yPart d (m (yLoc d)) (chunk p s b k.val)) := by
    intro b k
    split <;> infer_instance
  infer_instance

/-- The one call hands each core its tiles' shares and takes them back, the result's chunks done. -/
def P : (K (F := F)).Pay (nD := nD) (Val := Elt F) (Name := ℕ) (U := UU) where
  st := fun q d c => match q with | 0 => coreShare m d c.val 0
  dn := fun q d c => match q with | 0 => coreShare m d c.val 8
  go := fun q d c i => match q with | 0 => share m d c.val i.val 0
  td := fun q d c i => match q with | 0 => share m d c.val i.val 8
  x := fun _ _ => iprop(emp)

instance P_storable : (P (F := F) m).IsStorable where
  st q d c := match q with
    | 0 => (inferInstance : BI.Storable (upEmb : UEmb _ 𝕄) (coreShare m d c.val 0))
  dn q d c := match q with
    | 0 => (inferInstance : BI.Storable (upEmb : UEmb _ 𝕄) (coreShare m d c.val 8))
  go q d c i := match q with
    | 0 => share_storable m d c.val i.val 0
  td q d c i := match q with
    | 0 => share_storable m d c.val i.val 8

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_arg0_scv) (Memref.isWhole_whole _) (Memref.whole main_v0_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) ⟨⟩ c s := rfl

omit [FloatOps F] in
/-- Nothing, however often. -/
theorem nothing {I : Type} (s : Finset I) : (bigSep s fun _ => iprop(emp)) = (iprop(emp) : sProp 𝕄) := bigSep_emp_const s

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (m (xLoc d)) (m (yLoc d)) (coordsV ⟨_, hc.1⟩ ⟨_, hc.2⟩) hF O W hO).trans (wp_mono frame _ _ fun _ => obl_post)

theorem vecSplit : (K (F := F)).VecSplit' (P m) 0 := by
  intro d c
  show coreShare m d c.val 0 ⊢ |={Set.univ}=> iprop(coreShare m d c.val 0 ∗ (coreShare m d c.val 8 -∗ coreShare m d c.val 8))
  iintro H; imodintro
  isplitl [H]; · iexact H
  iintro H
  iexact H

/-! ## The launch's ghost state: the handshakes' rounds, nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  rw [show (bigSep Finset.univ fun _ : Thread nD τ => bigSep Finset.univ fun _ : Fin 1 => (iprop(emp) : sProp 𝕄)) = iprop(emp) from by
    rw [bigSep_congr fun _ _ => nothing _, nothing]]
  iempintro

/-! ## The main program -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_v0)) := by
  unfold unscopedBufs
  rw [show (Finset.univ.filter fun b : Ref sig .tc => ¬ b.isScoped) = {main_arg0, main_v0} by decide,
    SparseCore.bigSep_insert' (by decide), bigSep_singleton]

theorem st_eq (d : Dev nD) : (bigSep Finset.univ fun c : Fin ((K (F := F)).nCore 0) => (P m).st 0 d c)
    = iprop((xLoc d ↦{fullShare} m (xLoc d)) ∗ (yLoc d ↦{fullShare} m (yLoc d))) :=
  (shares d (m (xLoc d)) (m (yLoc d)) (yAll_none d _ _)).symm

theorem dn_eq (d : Dev nD) : (bigSep Finset.univ fun c : Fin ((K (F := F)).nCore 0) => (P m).dn 0 d c)
    = iprop((xLoc d ↦{fullShare} m (xLoc d)) ∗ (yLoc d ↦{fullShare} res (m (xLoc d)))) :=
  (shares d (m (xLoc d)) (m (yLoc d)) (yAll_full d _ _)).symm

/-- What the program leaves. -/
abbrev FIN (d : Dev nD) : sProp 𝕄 := iprop((xLoc d ↦{fullShare} m (xLoc d)) ∗ (yLoc d ↦{fullShare} res (m (xLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxy, Hts, -⟩, -⟩
  iapply ((K (F := F)).wp_run (D (F := F)) 𝒱 (EH := EH) (P := P m) κ d 0) $$ [Hst Hxy Hb Hts]
  isplitr; · iexact Hctx
  isplitl [Hst]; · iexact Hst
  isplitl [Hxy]
  · rw [st_eq]
    iexact Hxy
  iintro ⟨Hst, Hdn⟩
  ihave Hdn' := (Entails.of_eq (dn_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (xLoc d) = m (xLoc d) ∧ s'.mem.mem (yLoc d) = res (m (xLoc d))

theorem hfin (d : Dev nD) (s' : Phys nD τ sig (Elt F)) : iprop(FIN m d ∗ SI s') ⊢ (⌜fq m d s'⌝ : sProp 𝕄) := by
  iintro ⟨⟨Hx, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := yLoc d) (I := Finset.univ) (q := fullShare) (f := res (m (xLoc d)))) $$ [HSI Hy]
  · isplitl [HSI] <;> iassumption
  icases H with %h2
  ipureintro; exact ⟨funext fun i => h1 i (Finset.mem_univ i), funext fun i => h2 i (Finset.mem_univ i)⟩

/-- The end of a run: `x` as it was, the result the largest of each four, all semaphores at zero. -/
def QC : PUnit × MemSt nD τ sig (Elt F) → Prop :=
  fun r => (∀ c : Dev nD, r.2.mem (xLoc c) = m (xLoc c) ∧ r.2.mem (yLoc c) = res (m (xLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool
-- ==== Proof.Frames.lean ====
/-
  The claims about the kernel alone.
-/
module

public import proofs.«01_k».proof.Proof.Run
public import proofs.«01_k».proof.Defs
public import proofs.«01_k».proof.Proof.Gen.Kernel

@[expose] public section

noncomputable section

namespace Cert.Proof.Pool

open Idealize.ShloMosaic Idealize.SL.Sem

/-- The idealized kernel runs, leaving its argument and every semaphore as they were. -/
theorem frame_ideal : Cert.quiescent_KernelIdeal := fun m ρ _ =>
  (θ_run Cert.KernelIdeal.defs _ _).mono (fun _ h => ⟨fun c => (h.1 c).1, h.2⟩) (run_main (F := Ideal) m ρ)

/-- The kernel as printed is the same program, so it runs too. -/
theorem frame_kernel : Cert.quiescent_Kernel := fun m ρ _ =>
  (θ_run Cert.KernelIdeal.defs _ _).mono (fun _ h => ⟨fun c => (h.1 c).1, h.2⟩) (run_main (F := Bits) m ρ)

end Cert.Proof.Pool
-- ==== Proof.Reference.lean ====
/-
  The reference at the exact numbers: its table of places holds every place in order, so what it takes is `x` itself, and
  the largest of each four words from minus infinity is what the kernel leaves.
-/
module

public import proofs.«01_k».proof.Proof.Frames
public import proofs.«01_k».proof.Proof.Gen.ReferenceIdeal.Run
public import Idealize.ShloMosaic.Lib.Pipeline.Value
public import Idealize.ShloMosaic.PureOps.Ideal.Laws
public import Idealize.ShloMosaic.Lib.StableHlo.Predicate

@[expose] public section

noncomputable section

namespace Cert.Proof.Pool

open Cert.ReferenceIdeal Cert.ReferenceIdeal.Gen
open Idealize.ShloMosaic Idealize.SL.Sem
open Idealize.ShloMosaic.StableHlo.Predicate (toInt_ofNat_small sle_ofNat_iff slt_ofNat_iff)

/-! ## Taking columns -/

/-- Taking single columns by number: where the table names column `k` for place `j 1`, the entry taken at `j` is the one
    in `j`'s row and column `k`. -/
theorem take_col {α : Type} {R N P : ℕ} (wf : GatherDims.WF (⟨2, ![R, N]⟩ : Shape) (⟨2, ![P, 1]⟩ : Shape) (⟨2, ![R, P]⟩ : Shape) [0] [1] [] [1] [] 1 ![R, 1])
    (x : (⟨2, ![R, N]⟩ : Shape).Idx → α) (J : IVec (⟨2, ![P, 1]⟩ : Shape) 32) (j : (⟨2, ![R, P]⟩ : Shape).Idx)
    (k : (⟨2, ![R, N]⟩ : Shape).Idx) (h0 : (k 0).val = (j 0).val) (hN : N < 2 ^ 31)
    (hJ : ∀ z : (⟨2, ![P, 1]⟩ : Shape).Idx, (z 0).val = (j 1).val → J z = BitVec.ofNat 32 (k 1).val) :
    Host.gather ⟨[0], [1], [], [], [1], 1, ![R, 1], wf⟩ x J j = x k := by
  have hk : (k 1).val < N := (k 1).isLt
  refine congrArg x (funext fun a => Fin.ext ?_)
  match a with
  | ⟨0, _⟩ =>
    show GatherDims.start _ j J 0 + GatherDims.batchCoord _ j 0 + GatherDims.offCoord _ j 0 = (k 0).val
    rw [GatherDims.batchCoord_eq_zero _ _ _ List.not_mem_nil]
    unfold GatherDims.start GatherDims.offCoord
    rw [dif_neg (show (0 : Fin 2) ∉ ([1] : List (Fin 2)) by decide),
      dif_pos ((GatherDims.mem_sKept _ _).2 ⟨(show (0 : Fin 2) ∉ ([1] : List (Fin 2)) by decide), List.not_mem_nil⟩), h0]
    simp only [Nat.zero_add]
    rfl
  | ⟨1, _⟩ =>
    show GatherDims.start _ j J 1 + GatherDims.batchCoord _ j 1 + GatherDims.offCoord _ j 1 = (k 1).val
    rw [GatherDims.batchCoord_eq_zero _ _ _ List.not_mem_nil,
      GatherDims.offCoord_eq_zero _ _ _ fun h => ((GatherDims.mem_sKept _ _).1 h).1 (show (1 : Fin 2) ∈ ([1] : List (Fin 2)) by decide)]
    unfold GatherDims.start
    rw [dif_pos (show (1 : Fin 2) ∈ ([1] : List (Fin 2)) by decide), hJ _ rfl, toInt_ofNat_small _ (by omega)]
    show min ((k 1).val : Int).toNat (N - 1) + 0 + 0 = (k 1).val
    omega

/-! ## A fold of ones, and the largest of four -/

/-- The conjunction of bits that are all one, from one, is one. -/
theorem all_ones {s t u : Shape} {axes : List (Fin s.rank)} (x : IVec s 1) (init : IVec u 1) (h : s.ReducesTo axes t) (hu : 0 < u.numel)
    (hx : ∀ i, x i = 1#1) (hi : ∀ i, init i = 1#1) (j : t.Idx) : Host.reduce IntOp.andi x init h hu j = 1#1 := by
  rw [Host.reduce_eq_foldl, hi]
  generalize (((List.finRange s.numel).map s.rowMajor.symm).filter fun i => h.drop i = j) = l
  induction l with
  | nil => rfl
  | cons i l ih => rw [List.foldl_cons, hx]; exact ih

/-- Choosing by bits that are all one takes the first. -/
theorem choose_first {α : Type} {s t : Shape} (dims : Fin s.rank → Fin t.rank) (h : s.BroadcastsInDim t dims) (c : IVec s 1) (a b : t.Idx → α)
    (hc : ∀ i, c i = 1#1) (j : t.Idx) : select (broadcastInDim t dims h c) a b j = a j := if_pos (hc _)

/-- Minus infinity leaves the other number. -/
theorem bottom (y : Ideal .f32) : max y (Ideal.ofBits .f32 0xFF800000#32) = y := by
  simp [Ideal.ofBits, Ideal.ieee]

/-- The largest along a last axis of four, from minus infinity. -/
theorem largest {A B : ℕ} (x : FVec Ideal (⟨3, ![A, B, 4]⟩ : Shape) .f32)
    (h' : (⟨3, ![A, B, 4]⟩ : Shape).ReducesTo [2] (⟨2, ![A, B]⟩ : Shape)) (hu : 0 < (⟨0, ![]⟩ : Shape).numel)
    (p : (⟨2, ![A, B]⟩ : Shape).Idx) (R : ℕ → Ideal .f32) (w : ℕ)
    (hx : ∀ q : (⟨3, ![A, B, 4]⟩ : Shape).Idx, (q 0).val = (p 0).val → (q 1).val = (p 1).val → x q = R (4 * w + (q 2).val)) :
    Host.reduce FloatOps.maximumf x (constant (⟨0, ![]⟩ : Shape) .f32 0xFF800000#32) h' hu p = best (F := Ideal) R w := by
  have h : (⟨3, ![A, B, 4]⟩ : Shape).Reduces [2] (⟨2, ![A, B]⟩ : Shape) := ⟨h'.1, Nat.zero_lt_two, h'.2⟩
  rw [Host.reduce_eq_fold_single FloatOps.maximumf x _ h' h hu]
  have e : (x ∘ h.lift p) = fun k : Fin 4 => R (4 * w + k.val) := funext fun k => hx _ rfl rfl
  refine (congrArg (fun f => Finset.fold max (Ideal.ofBits .f32 0xFF800000#32) f (Finset.univ : Finset (Fin 4))) e).trans ?_
  show max (R (4 * w)) (max (R (4 * w + 1)) (max (R (4 * w + 2)) (max (R (4 * w + 3)) (Ideal.ofBits .f32 0xFF800000#32)))) = _
  rw [bottom]
  show _ = max (max (R (4 * w)) (R (4 * w + 1))) (max (R (4 * w + 2)) (R (4 * w + 3)))
  rw [max_assoc]

/-! ## The table of places -/

/-- The reference's table: four times the row, plus the column. -/
def grid : IVec S786432x4 32 :=
  addi (broadcastInDim S786432x4 ![0, 1] bcast_S786432x1_S786432x4_0_1 (broadcastInDim S786432x1 ![0] bcast_S786432_S786432x1_0
      (muli (broadcastInDim S786432 ![] bcast_S_S786432 (constantI S_ 32 4#32)) (iotaInDim S786432 32 0))))
    (broadcastInDim S786432x4 ![0, 1] bcast_S1x4_S786432x4_0_1 (broadcastInDim S1x4 ![1] bcast_S4_S1x4_1 (iotaInDim S4 32 0)))

/-- The table laid out in a row. -/
def places : IVec S3145728 32 := shapeCast _ grid shapeCasts_S786432x4_S3145728

/-- The places after those below zero would be counted from the end. -/
def wrapped : IVec S3145728 32 :=
  select (cmpi .slt places (broadcastInDim S3145728 ![] bcast_S_S3145728 (constantI S_ 32 0#32)))
    (addi places (broadcastInDim S3145728 ![] bcast_S_S3145728 (constantI S_ 32 3145728#32))) places

/-- The places as a column. -/
def column : IVec S3145728x1 32 := broadcastInDim S3145728x1 ![0] bcast_S3145728_S3145728x1_0 wrapped

/-- Which places lie inside `x`. -/
def inside : IVec S3145728 1 :=
  Host.reduce IntOp.andi (andi (cmpi .sge column (broadcastInDim S3145728x1 ![] bcast_S_S3145728x1 (constantI S_ 32 0#32)))
    (cmpi .sle column (broadcastInDim S3145728x1 ![0, 1] bcast_S1x1_S3145728x1_0_1 (broadcastInDim S1x1 ![1] bcast_S1_S1x1_1 (constantI S1 32 3145727#32)))))
    (constantI S_ 1 1#1) reducesTo_S3145728x1_S3145728_d1 h_S_

/-- What the reference takes from `x`. -/
def taken (x : FVec Ideal S8x3145728 .f32) : FVec Ideal S8x3145728 .f32 :=
  select (broadcastInDim S8x3145728 ![1] bcast_S3145728_S8x3145728_1 inside)
    (Host.gather gather_S8x3145728_S3145728x1_S8x3145728_0_1_n_n_1_1_81 x column)
    (broadcastInDim S8x3145728 ![] bcast_S_S8x3145728 (constant S_ .f32 0x7FC00000#32))

theorem grid_at (i : S786432x4.Idx) : grid i = BitVec.ofNat 32 (4 * (i 0).val + (i 1).val) := by
  rw [BitVec.ofNat_add, BitVec.ofNat_mul]
  rfl

theorem places_at (z : S3145728.Idx) : places z = BitVec.ofNat 32 (z 0).val := by
  have hz : (z 0).val < 3145728 := (z 0).isLt
  have e := shapeCast_apply grid shapeCasts_S786432x4_S3145728 z
    (Fin.cons (⟨(z 0).val / 4, by omega⟩ : Fin 786432) (Fin.cons (⟨(z 0).val % 4, by omega⟩ : Fin 4) nofun)) (by
      rw [Shape.rowMajor_val_two, Shape.rowMajor_val_one]
      show (z 0).val / 4 * 4 + (z 0).val % 4 = (z 0).val
      omega)
  refine e.trans ((grid_at _).trans (congrArg (BitVec.ofNat 32) ?_))
  show 4 * ((z 0).val / 4) + (z 0).val % 4 = (z 0).val
  omega

theorem wrapped_at (z : S3145728.Idx) : wrapped z = BitVec.ofNat 32 (z 0).val := by
  have hz : (z 0).val < 3145728 := (z 0).isLt
  refine Eq.trans (if_neg ?_) (places_at z)
  show ¬ BitVec.ofBool ((places z).slt (BitVec.ofNat 32 0)) = 1#1
  rw [places_at, slt_ofNat_iff _ _ (by omega) (by omega)]
  omega

theorem column_at (z : S3145728x1.Idx) : column z = BitVec.ofNat 32 (z 0).val := wrapped_at _

theorem inside_at (z : S3145728.Idx) : inside z = 1#1 := by
  refine all_ones _ _ _ _ (fun i => ?_) (fun _ => rfl) z
  have hi : (i 0).val < 3145728 := (i 0).isLt
  show IntOp.andi (BitVec.ofBool ((BitVec.ofNat 32 0).sle (column i))) (BitVec.ofBool ((column i).sle (BitVec.ofNat 32 3145727))) = 1#1
  rw [column_at, (sle_ofNat_iff _ _ (by omega) (by omega)).2 (by omega), (sle_ofNat_iff _ _ (by omega) (by omega)).2 (by omega)]
  rfl

/-- What is taken is `x`. -/
theorem taken_eq (x : FVec Ideal S8x3145728 .f32) (j : S8x3145728.Idx) : taken x j = x j :=
  (choose_first _ _ inside _ _ inside_at j).trans
    (take_col gather_S8x3145728_S3145728x1_S8x3145728_0_1_n_n_1_1_81_wf x column j j rfl (by omega)
      fun z hz => (column_at z).trans (congrArg (BitVec.ofNat 32) hz))

/-! ## The two results -/

/-- The reference's result as a function of `x`. -/
def expected (x : FVec Ideal S8x3145728 .f32) : FVec Ideal S8x786432 .f32 :=
  Host.reduce FloatOps.maximumf (shapeCast _ (taken x) shapeCasts_S8x3145728_S8x786432x4) (constant S_ .f32 0xFF800000#32)
    reducesTo_S8x786432x4_S8x786432_d2 h_S_

theorem expected_eq {d : Dev Cert.KernelIdeal.nD} (mx : Buf (Elt Ideal) (xLoc d)) : (expected mx : Buf (Elt Ideal) (yLoc d)) = res mx := by
  funext p
  have h0 : ((p : S8x786432.Idx) 0).val < 8 := ((p : S8x786432.Idx) 0).isLt
  have h1 : ((p : S8x786432.Idx) 1).val < 786432 := ((p : S8x786432.Idx) 1).isLt
  refine largest _ _ _ p (xword mx) _ fun q e0 e1 => ?_
  have h2 : (q 2).val < 4 := (q 2).isLt
  refine (shapeCast_apply (taken mx) shapeCasts_S8x3145728_S8x786432x4 q
    (xat (4 * (((p : S8x786432.Idx) 0).val * 786432 + ((p : S8x786432.Idx) 1).val) + (q 2).val)) ?_).trans (taken_eq _ _)
  rw [Shape.rowMajor_val_two, Shape.rowMajor_val_three, e0, e1]
  generalize ((p : S8x786432.Idx) 0).val = a at h0 ⊢
  generalize ((p : S8x786432.Idx) 1).val = b at h1 ⊢
  generalize (q 2).val = c at h2 ⊢
  show (4 * (a * 786432 + b) + c) / 3145728 % 8 * 3145728 + (4 * (a * 786432 + b) + c) % 3145728 = (a * 786432 + b) * 4 + c
  omega

theorem value_eq (m : (ℓ : Loc nD τ sig) → Buf (Elt Ideal) ℓ) (c : Dev nD) :
    Cert.ReferenceIdeal.Value.res_out0 m c = expected (m ((c.tc : Thread nD τ).loc main_arg0)) := rfl

/-- The reference runs, leaving its argument and every semaphore as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same argument the two leave the same result. -/
theorem same_result : Cert.algebraic_KernelIdeal_ReferenceIdeal := fun m ρ m' ρ' _ hm =>
  ⟨fun c => res (m (xLoc c)),
    (θ_run Cert.KernelIdeal.defs _ _).mono (fun _ h c => ⟨(h.1 c).2, (h.1 c).1⟩) (run_main (F := Ideal) m ρ),
    (θ_run Cert.ReferenceIdeal.defs _ _).mono
      (fun _ h c => ⟨(h c).1.trans ((value_eq m' c).trans ((congrArg expected (hm c)).trans (expected_eq _))), (h c).2⟩)
      (Cert.ReferenceIdeal.Value.run (F := Ideal) m' ρ')⟩

end Cert.Proof.Pool
-- ==== Proof.lean ====
/-
  The proof of `Cert.Claim`: the kernel and its idealization run and give their buffers and semaphores back, so does the
  reference, and the idealized kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Reference
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Pool.frame_kernel, Pool.frame_ideal, Pool.frame_reference, trivial, Pool.same_result⟩

end Cert.Proof

end
